-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 512]⟩ ⟨3, ![2, 1024, 512]⟩ (Layout.meshBlock [2, 2, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![512, 512]⟩ ⟨2, ![1024, 512]⟩ (Layout.meshBlock [2, 2, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x512 : Shape := ⟨3, ![1, 1024, 512]⟩
abbrev S512 : Shape := ⟨1, ![512]⟩
abbrev S1x512 : Shape := ⟨2, ![1, 512]⟩
abbrev S512x512 : Shape := ⟨2, ![512, 512]⟩
abbrev S4x128x512 : Shape := ⟨3, ![4, 128, 512]⟩
abbrev S1x128x512 : Shape := ⟨3, ![1, 128, 512]⟩
abbrev S4 : Shape := ⟨1, ![4]⟩
abbrev S_ : Shape := ⟨0, ![]⟩
abbrev S128x512 : Shape := ⟨2, ![128, 512]⟩
abbrev S1 : Shape := ⟨1, ![1]⟩
abbrev S128 : Shape := ⟨1, ![128]⟩
abbrev S128x1 : Shape := ⟨2, ![128, 1]⟩

abbrev nBuf : Space → Nat
  | .hbm => 4
  | .vmem => 7
  | .smem => 0
  | _ => 0

abbrev bufTy : (tb : Table) → Fin (tcTables nBuf tb) → BufTy
  | .hbm, ⟨0, _⟩ => ⟨S1x1024x512, .bf16⟩
  | .hbm, ⟨1, _⟩ => ⟨S512, .bf16⟩
  | .hbm, ⟨2, _⟩ => ⟨S1x512, .bf16⟩
  | .hbm, ⟨3, _⟩ => ⟨S512x512, .f32⟩
  | .local _ .vmem, ⟨0, _⟩ => ⟨S1x1024x512, .bf16⟩
  | .local _ .vmem, ⟨1, _⟩ => ⟨S1x512, .bf16⟩
  | .local _ .vmem, ⟨2, _⟩ => ⟨S512x512, .f32⟩
  | .local _ .vmem, ⟨3, _⟩ => ⟨S4x128x512, .fp8e4m3⟩
  | .local _ .vmem, ⟨4, _⟩ => ⟨S4x128x512, .fp8e4m3⟩
  | .local _ .vmem, ⟨5, _⟩ => ⟨S1x128x512, .bf16⟩
  | .local _ .vmem, ⟨6, _⟩ => ⟨S1x128x512, .bf16⟩
  | _, _ => ⟨S1x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) (c0_i32_7 : BitVec 32) : Fin 3 → Nat :=
  let c0 : Index := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c512_i32 : BitVec 32 := 512#32
  let v17 : BitVec 32 := Scalar.muli v9 c512_i32
  let v18 : BitVec 32 := Scalar.addi v17 c0_i32_7
  let v19 : Index := Scalar.indexCast v18
  let c0_8 : Index := 0#32
  ![0, v19.toNat, 0]
def k0_dev2 (d0 : Dev nD) : Nat :=
  let c0_i32_18 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_17 : BitVec 32 := 8#32
  let v26 : BitVec 32 := Scalar.muli v9 c8_i32_17
  let v27 : BitVec 32 := Scalar.addi c0_i32_18 v26
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v28 : BitVec 32 := Scalar.muli v5 c4_i32_19
  let v29 : BitVec 32 := Scalar.addi v27 v28
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v30 : BitVec 32 := Scalar.muli v8 c1_i32_20
  let v31 : BitVec 32 := Scalar.addi v29 v30
  v31.toNat
def k0_dev3 (d0 : Dev nD) : Nat :=
  let c0_i32_35 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_34 : BitVec 32 := 8#32
  let v49 : BitVec 32 := Scalar.muli v9 c8_i32_34
  let v50 : BitVec 32 := Scalar.addi c0_i32_35 v49
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_36 : BitVec 32 := 4#32
  let v51 : BitVec 32 := Scalar.muli v5 c4_i32_36
  let v52 : BitVec 32 := Scalar.addi v50 v51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v53 : BitVec 32 := Scalar.muli v8 c1_i32_37
  let v54 : BitVec 32 := Scalar.addi v52 v53
  v54.toNat
def k0_dev4 (d0 : Dev nD) : Nat :=
  let c0_i32_52 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_51 : BitVec 32 := 8#32
  let v72 : BitVec 32 := Scalar.muli v9 c8_i32_51
  let v73 : BitVec 32 := Scalar.addi c0_i32_52 v72
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_53 : BitVec 32 := 4#32
  let v74 : BitVec 32 := Scalar.muli v5 c4_i32_53
  let v75 : BitVec 32 := Scalar.addi v73 v74
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_54 : BitVec 32 := 1#32
  let v76 : BitVec 32 := Scalar.muli v8 c1_i32_54
  let v77 : BitVec 32 := Scalar.addi v75 v76
  v77.toNat
def k0_dev5 (d0 : Dev nD) : Nat :=
  let c0_i32_68 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_67 : BitVec 32 := 8#32
  let v95 : BitVec 32 := Scalar.muli v9 c8_i32_67
  let v96 : BitVec 32 := Scalar.addi c0_i32_68 v95
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_69 : BitVec 32 := 4#32
  let v97 : BitVec 32 := Scalar.muli v5 c4_i32_69
  let v98 : BitVec 32 := Scalar.addi v96 v97
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_70 : BitVec 32 := 1#32
  let v99 : BitVec 32 := Scalar.muli v8 c1_i32_70
  let v100 : BitVec 32 := Scalar.addi v98 v99
  v100.toNat
def k0_off2 (d0 : Dev nD) (c0_i32_91 : BitVec 32) : Fin 3 → Nat :=
  let c0_92 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_90 : BitVec 32 := 512#32
  let v123 : BitVec 32 := Scalar.muli v2 c512_i32_90
  let v124 : BitVec 32 := Scalar.addi v123 c0_i32_91
  let v125 : Index := Scalar.indexCast v124
  let c0_93 : Index := 0#32
  ![0, v125.toNat, 0]
abbrev stage0_0 : Fin 1 → Memref sig .tc .vmem S1x1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x1024x512 : Shape := ⟨3, ![2, 1024, 512]⟩
abbrev S512 : Shape := ⟨1, ![512]⟩
abbrev S_ : Shape := ⟨0, ![]⟩
abbrev S1024x512 : Shape := ⟨2, ![1024, 512]⟩
abbrev S1024 : Shape := ⟨1, ![1024]⟩
abbrev S1024x1 : Shape := ⟨2, ![1024, 1]⟩
abbrev S1x512 : Shape := ⟨2, ![1, 512]⟩

abbrev nBuf : Space → Nat
  | .hbm => 22
  | .vmem => 0
  | .smem => 0
  | _ => 0

abbrev bufTy : (tb : Table) → Fin (tcTables nBuf tb) → BufTy
  | .hbm, ⟨0, _⟩ => ⟨S2x1024x512, .bf16⟩
  | .hbm, ⟨1, _⟩ => ⟨S512, .bf16⟩
  | .hbm, ⟨2, _⟩ => ⟨S2x1024x512, .f32⟩
  | .hbm, ⟨3, _⟩ => ⟨S512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x512, .f32⟩
  | .hbm, ⟨18, _⟩ => ⟨S1024x512, .f32⟩
  | .hbm, ⟨19, _⟩ => ⟨S1x512, .f32⟩
  | .hbm, ⟨20, _⟩ => ⟨S1024x512, .f32⟩
  | .hbm, ⟨21, _⟩ => ⟨S1024x512, .f32⟩
  | _, _ => ⟨S2x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Slots.lean ====
/- The kernel's names and geometry: the device across axis x, the four slots of the send and the receive buffer, what a
   device stages in a slot and what it makes of a landed slot, the semaphores of the two arrays. -/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Tactic

@[expose] public section

noncomputable section

namespace Cert.KernelIdeal.Pair

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-! ## The device across axis x -/

/-- The device with the other x coordinate and the same y and z. -/
def across (c : Dev nD) : Dev nD := ⟨(c.val + 8) % 16, Nat.mod_lt _ (by decide)⟩
theorem across_across (c : Dev nD) : across (across c) = c := by revert c; decide
def acrossEquiv : Dev nD ≃ Dev nD := ⟨across, across, across_across, across_across⟩

theorem dev1_across (c : Dev nD) (h : k0_dev1 c < nD) : (⟨k0_dev1 c, h⟩ : Dev nD) = across c := by
  refine Fin.ext ?_; show k0_dev1 c = _; rw [k0_dev1_eq]; revert c; decide
theorem dev2_across (c : Dev nD) (h : k0_dev2 c < nD) : (⟨k0_dev2 c, h⟩ : Dev nD) = across c := by
  refine Fin.ext ?_; show k0_dev2 c = _; rw [k0_dev2_eq]; revert c; decide
theorem dev3_across (c : Dev nD) (h : k0_dev3 c < nD) : (⟨k0_dev3 c, h⟩ : Dev nD) = across c := by
  refine Fin.ext ?_; show k0_dev3 c = _; rw [k0_dev3_eq]; revert c; decide
theorem dev4_across (c : Dev nD) (h : k0_dev4 c < nD) : (⟨k0_dev4 c, h⟩ : Dev nD) = across c := by
  refine Fin.ext ?_; show k0_dev4 c = _; rw [k0_dev4_eq]; revert c; decide
theorem dev5_across (c : Dev nD) (h : k0_dev5 c < nD) : (⟨k0_dev5 c, h⟩ : Dev nD) = across c := by
  refine Fin.ext ?_; show k0_dev5 c = _; rw [k0_dev5_eq]; revert c; decide

/-! ## The slots -/

theorem slot_inb (k : Fin 4) : ∀ a, (![k.val, 0, 0] : Fin 3 → Nat) a + S1x128x512.size a ≤ S4x128x512.size a := by
  revert k; decide

/-- Slot `k` of a four-slot buffer: rows 128 of 512, one after another. -/
abbrev slotRect (k : Fin 4) : Rect S4x128x512 := Rect.unit (s := S4x128x512) ![k.val, 0, 0] S1x128x512.size (slot_inb k)

abbrev sendM : Memref sig .tc .vmem S4x128x512 .fp8e4m3 := Memref.whole cc0_scratch0
abbrev recvM : Memref sig .tc .vmem S4x128x512 .fp8e4m3 := Memref.whole cc0_scratch1
abbrev xM : Memref sig .tc .vmem S1x1024x512 .bf16 := Memref.whole cc0_stg0_0
abbrev gM : Memref sig .tc .vmem S1x512 .bf16 := Memref.whole cc0_stg1_0
abbrev oM : Memref sig .tc .vmem S512x512 .f32 := Memref.whole cc0_stg2_0

abbrev sendSlot (k : Fin 4) : Memref sig .tc .vmem S1x128x512 .fp8e4m3 := sendM.slice (slotRect k) (fun _ => rfl)
abbrev recvSlot (k : Fin 4) : Memref sig .tc .vmem S1x128x512 .fp8e4m3 := recvM.slice (slotRect k) (fun _ => rfl)
/-- The same slots as the transfers name them, the axis of size one dropped. -/
abbrev sendSq (k : Fin 4) : Memref sig .tc .vmem S128x512 .fp8e4m3 := (sendSlot k).squeeze S128x512 Facts₀.squeezes_S1x128x512_S128x512
abbrev recvSq (k : Fin 4) : Memref sig .tc .vmem S128x512 .fp8e4m3 := (recvSlot k).squeeze S128x512 Facts₀.squeezes_S1x128x512_S128x512

theorem mem_slotRect (k : Fin 4) (i : S4x128x512.Idx) : i ∈ (slotRect k).set ↔ (i 0).val = k.val := by
  rw [Rect.mem_set_unit]
  constructor
  · intro h
    have h0 := h 0
    simp only [Matrix.cons_val_zero] at h0
    have : S1x128x512.size 0 = 1 := rfl
    omega
  · intro h a
    match a with
    | 0 => exact ⟨h.ge, by show (i 0).val < k.val + 1; omega⟩
    | 1 => exact ⟨Nat.zero_le _, by show (i 1).val < 0 + 128; have : (i 1).val < 128 := (i 1).isLt; omega⟩
    | 2 => exact ⟨Nat.zero_le _, by show (i 2).val < 0 + 512; have : (i 2).val < 512 := (i 2).isLt; omega⟩

theorem slots_disjoint (k k' : Fin 4) (h : k ≠ k') : Disjoint (slotRect k).set (slotRect k').set :=
  Finset.disjoint_left.mpr fun i hi hi' => h (Fin.ext (((mem_slotRect k i).mp hi).symm.trans ((mem_slotRect k' i).mp hi')))

theorem slots_cover : (Finset.univ : Finset (Fin 4)).biUnion (fun k => (slotRect k).set) = Finset.univ :=
  Finset.eq_univ_iff_forall.mpr fun i => Finset.mem_biUnion.mpr ⟨⟨(i 0).val, (i 0).isLt⟩, Finset.mem_univ _, (mem_slotRect _ i).mpr rfl⟩

/-! ## What is staged, and what is made of a landed slot -/

/-- The rows of chunk `k` a device sends: the other half's, of its own block. -/
abbrev outRect (c : Dev nD) (k : Fin 4) : Rect S1x1024x512 :=
  Rect.unit (s := S1x1024x512) (k0_off1 c (BitVec.ofNat 32 (128 * k.val))) S1x128x512.size (Facts₀.k0_off1_inb c k)
/-- The rows of chunk `k` a device keeps: its own half's. -/
abbrev ownRect (c : Dev nD) (k : Fin 4) : Rect S1x1024x512 :=
  Rect.unit (s := S1x1024x512) (k0_off2 c (BitVec.ofNat 32 (128 * k.val))) S1x128x512.size (Facts₀.k0_off2_inb c k)

/-- What device `c`, whose block is `x`, stages in slot `k`. -/
def staged (x : Vec F S1x1024x512 .bf16) (c : Dev nD) (k : Fin 4) : Vec F S1x128x512 .fp8e4m3 :=
  k0_pay1 (xM.view.readAt (Elt F) (outRect c k).toLoadRect x)

/-- What device `c` computes for chunk `k` of its result: of the slot landed, its block and the scale row. -/
def made (y : Vec F S1x128x512 .fp8e4m3) (x : Vec F S1x1024x512 .bf16) (γ : Vec F S1x512 .bf16) (c : Dev nD) (k : Fin 4) : Vec F S128x512 .f32 :=
  k0_pay8 y (xM.view.readAt (Elt F) (ownRect c k).toLoadRect x)
    (gM.view.readAt (Elt F) (Rect.unit (s := S1x512) ![0, 0] S1x512.size Facts₀.inb_S1x512_S1x512_0_0).toLoadRect γ)

theorem pay2_eq : k0_pay2 (F := F) = k0_pay1 := rfl
theorem pay3_eq : k0_pay3 (F := F) = k0_pay1 := rfl
theorem pay5_eq (v : Vec F S1x128x512 .bf16) : k0_pay5 (k0_pay4 v) = k0_pay1 (F := F) v := rfl
theorem pay7_eq (a : Vec F S1x128x512 .fp8e4m3) (b : Vec F S1x128x512 .bf16) (g : Vec F S1x512 .bf16) : k0_pay7 (k0_pay6 a) b g = k0_pay8 (F := F) a b g := rfl
theorem pay9_eq : k0_pay9 (F := F) = k0_pay8 := rfl
theorem pay10_eq : k0_pay10 (F := F) = k0_pay8 := rfl

/-! ## The semaphores -/

abbrev barS : Sem sig := barrier0
abbrev sendS (k : Fin 4) : DmaSem sig := ⟨3 + k.val, by have := k.isLt; show 3 + k.val < 11; omega⟩
abbrev recvS (k : Fin 4) : DmaSem sig := ⟨7 + k.val, by have := k.isLt; show 7 + k.val < 11; omega⟩
theorem barS_eq : (SemArray.scalar (sig.barrier 0 rfl) : Sems sig S_).sem = barS := rfl
theorem sendS0 : ((cc0_scratch4.slice (Rect.unit (s := S4) ![0] S1.size Facts₀.inb_S4_S1_0)).squeeze S_ Facts₀.squeezes_S1_S_).sem = sendS 0 := rfl
theorem sendS1 : ((cc0_scratch4.slice (Rect.unit (s := S4) ![1] S1.size Facts₀.inb_S4_S1_1)).squeeze S_ Facts₀.squeezes_S1_S_).sem = sendS 1 := rfl
theorem sendS2 : ((cc0_scratch4.slice (Rect.unit (s := S4) ![2] S1.size Facts₀.inb_S4_S1_2)).squeeze S_ Facts₀.squeezes_S1_S_).sem = sendS 2 := rfl
theorem sendS3 : ((cc0_scratch4.slice (Rect.unit (s := S4) ![3] S1.size Facts₀.inb_S4_S1_3)).squeeze S_ Facts₀.squeezes_S1_S_).sem = sendS 3 := rfl
theorem recvS0 : ((cc0_scratch5.slice (Rect.unit (s := S4) ![0] S1.size Facts₀.inb_S4_S1_0)).squeeze S_ Facts₀.squeezes_S1_S_).sem = recvS 0 := rfl
theorem recvS1 : ((cc0_scratch5.slice (Rect.unit (s := S4) ![1] S1.size Facts₀.inb_S4_S1_1)).squeeze S_ Facts₀.squeezes_S1_S_).sem = recvS 1 := rfl
theorem recvS2 : ((cc0_scratch5.slice (Rect.unit (s := S4) ![2] S1.size Facts₀.inb_S4_S1_2)).squeeze S_ Facts₀.squeezes_S1_S_).sem = recvS 2 := rfl
theorem recvS3 : ((cc0_scratch5.slice (Rect.unit (s := S4) ![3] S1.size Facts₀.inb_S4_S1_3)).squeeze S_ Facts₀.squeezes_S1_S_).sem = recvS 3 := rfl

/-- What a copy into one slot pays its two semaphores. -/
abbrev N : ℕ := (recvSq 0).view.dmaCredit
theorem N_pos : 0 < N := View.dmaCredit_pos _ (by decide)
theorem credit_recvSq (k : Fin 4) : (recvSq k).view.dmaCredit = N := rfl
theorem credit_sendSq (k : Fin 4) : (sendSq k).view.dmaCredit = N := rfl

end Cert.KernelIdeal.Pair

end
-- ==== Proof.Proto.lean ====
/- The protocol between a device and the one across axis x: a semaphore cell each for the barrier, the four departures and the
   four arrivals; who pays each of them, in what, and with which resources; what each core owes and may wait for. -/
module

public import proofs.«01_k».proof.Proof.Slots

@[expose] public section

noncomputable section

namespace Cert.KernelIdeal.Pair

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- Two copies of the rounds library's algebra: the staging pipeline's and this protocol's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-- What every device's block of the partial sums is. -/
abbrev Blocks (F : FTy → Type) : Type := Dev nD → Vec F S1x1024x512 .bf16

variable (X : Blocks F)

/-! ## Cells -/

abbrev barCell (c : Dev nD) : GSem nD τ sig := ((c : Thread nD τ), .reg barS)
abbrev sendCell (c : Dev nD) (k : Fin 4) : GSem nD τ sig := ((c : Thread nD τ), .dma (sendS k))
abbrev recvCell (c : Dev nD) (k : Fin 4) : GSem nD τ sig := ((c : Thread nD τ), .dma (recvS k))

/-- Which slot a semaphore of the two arrays belongs to. -/
def slotOf (i : DmaSem sig) : Fin 4 := ⟨(i.val + 1) % 4, Nat.mod_lt _ (by decide)⟩
theorem slotOf_send (k : Fin 4) : slotOf (sendS k) = k := by revert k; decide
theorem slotOf_recv (k : Fin 4) : slotOf (recvS k) = k := by revert k; decide

/-! ## The resources that travel -/

/-- Device `c`'s send slot `k` at some contents, its receive slot `k` at some contents. -/
abbrev sendAny (c : Dev nD) (k : Fin 4) : sProp 𝕄 := iprop(∃ Y, owns (c : Thread nD τ) (sendSlot k) fullShare Y)
abbrev recvAny (c : Dev nD) (k : Fin 4) : sProp 𝕄 := iprop(∃ Y, owns (c : Thread nD τ) (recvSlot k) fullShare Y)

/-- The barrier's unit brings the other device's four receive slots, and that their arrival cells are in their first round. -/
def barPay (c : Dev nD) : sProp 𝕄 :=
  bigSep Finset.univ fun k : Fin 4 => iprop(recvAny (across c) k ∗ reached ER (recvCell (across c) k) 0)
/-- An arrival brings the receive slot, holding what the other device staged. -/
def recvPay (c : Dev nD) (k : Fin 4) : sProp 𝕄 := owns (c : Thread nD τ) (recvSlot k) fullShare (staged (X (across c)) (across c) k)
/-- A departure brings the send slot back. -/
def sendPay (c : Dev nD) (k : Fin 4) : sProp 𝕄 := sendAny c k

/-! ## The schedule -/

/-- The cells the protocol uses: the barrier's, and the two arrays' (the numbers below 3 are the staging buffers'). -/
def Used : SemLoc sig → Prop
  | .reg _ => True
  | .dma i => 3 ≤ i.val
instance : DecidablePred Used := fun s => match s with
  | .reg _ => inferInstanceAs (Decidable True)
  | .dma i => inferInstanceAs (Decidable (3 ≤ i.val))

def amountOf : SemLoc sig → ℕ
  | .reg _ => 1
  | .dma _ => N

def payOf (c : Dev nD) : SemLoc sig → sProp 𝕄
  | .reg _ => barPay c
  | .dma i => if 7 ≤ i.val then recvPay X c (slotOf i) else sendPay c (slotOf i)

/-- One round, one duty on every cell used. -/
def talk : Rounds.Schedule (GSem nD τ sig) Unit 𝕄 where
  duties g r := if r = 0 ∧ g.1.2 = .tc ∧ Used g.2 then {()} else ∅
  unitless _ := False
  amount g _ _ := amountOf g.2
  payload g _ _ := payOf X g.1.1 g.2
  amount_pos g _ _ _ := by
    rcases g with ⟨_, _ | _⟩
    · exact Nat.one_pos
    · exact N_pos

instance talk_payload_storable (g : GSem nD τ sig) (r : ℕ) (d : Unit) : BI.Storable (upEmb : UEmb _ 𝕄) ((talk X).payload g r d) := by
  show BI.Storable upEmb (payOf X g.1.1 g.2)
  rcases g with ⟨c, s | s⟩
  · show BI.Storable upEmb (barPay _); unfold barPay; infer_instance
  · show BI.Storable upEmb (if _ then _ else _)
    unfold recvPay sendPay
    split <;> infer_instance

section Tables

variable (c : Dev nD) (k : Fin 4) (u : Unit)

theorem duties_used (s : SemLoc sig) (h : Used s) : (talk X).duties ((c : Thread nD τ), s) 0 = {()} := by
  dsimp only [talk]; exact if_pos ⟨rfl, rfl, h⟩
theorem duties_later (g : GSem nD τ sig) : ∀ r, 1 ≤ r → (talk X).duties g r = ∅ :=
  fun r hr => by dsimp only [talk]; rw [if_neg (fun h => by omega)]

theorem used_bar : Used (.reg barS) := trivial
theorem used_send : Used (.dma (sendS k)) := Nat.le_add_right 3 _
theorem used_recv : Used (.dma (recvS k)) := by show 3 ≤ 7 + k.val; omega

theorem mem_bar : () ∈ (talk X).duties (barCell c) 0 := by rw [duties_used X c _ used_bar]; exact Finset.mem_singleton_self _
theorem mem_send : () ∈ (talk X).duties (sendCell c k) 0 := by rw [duties_used X c _ (used_send k)]; exact Finset.mem_singleton_self _
theorem mem_recv : () ∈ (talk X).duties (recvCell c k) 0 := by rw [duties_used X c _ (used_recv k)]; exact Finset.mem_singleton_self _

theorem expect_used (s : SemLoc sig) (h : Used s) : (talk X).expect ((c : Thread nD τ), s) 0 = amountOf s := by
  unfold Schedule.expect Schedule.amountOf; rw [duties_used X c s h, Finset.sum_singleton]; rfl

theorem pay_bar : (talk X).payload (barCell c) 0 u = barPay c := rfl
theorem pay_send : (talk X).payload (sendCell c k) 0 u = sendPay c k := by
  show (if 7 ≤ 3 + k.val then recvPay X c (slotOf (sendS k)) else sendPay c (slotOf (sendS k))) = _
  rw [if_neg (by have := k.isLt; omega), slotOf_send]
theorem pay_recv : (talk X).payload (recvCell c k) 0 u = recvPay X c k := by
  show (if 7 ≤ 7 + k.val then recvPay X c (slotOf (recvS k)) else sendPay c (slotOf (recvS k))) = _
  rw [if_pos (Nat.le_add_right _ _), slotOf_recv]

theorem rest_bar : bigSep ((talk X).duties (barCell c) 0 \ ∅) (fun u => (talk X).payload (barCell c) 0 u) = barPay c := by
  rw [Finset.sdiff_empty, duties_used X c _ used_bar, bigSep_singleton, pay_bar]
theorem rest_send : bigSep ((talk X).duties (sendCell c k) 0 \ ∅) (fun u => (talk X).payload (sendCell c k) 0 u) = sendPay c k := by
  rw [Finset.sdiff_empty, duties_used X c _ (used_send k), bigSep_singleton, pay_send]
theorem rest_recv : bigSep ((talk X).duties (recvCell c k) 0 \ ∅) (fun u => (talk X).payload (recvCell c k) 0 u) = recvPay X c k := by
  rw [Finset.sdiff_empty, duties_used X c _ (used_recv k), bigSep_singleton, pay_recv]

end Tables

/-! ## What a core owes, and the levels -/

/-- The credit of the arrivals from slot `k` on at the other device. -/
def owe (c : Dev nD) : ℕ → CellTallies nD τ sig Unit
  | 0 => 0
  | n + 1 => owe c n + tallyAt (recvCell (across c) (Fin.ofNat 4 (3 - n))) () N

/-- At launch: the four arrivals at the other device and its barrier's unit. -/
def O₀ (c : Dev nD) : CellTallies nD τ sig Unit := owe c 4 + tallyAt (barCell (across c)) () 1

def L (g : GSem nD τ sig) : Finset Unit := if g.1.2 = .tc then {()} else ∅
/-- The staging buffers' cells and the departures at level 0, the barrier at 1, the arrivals at 2. -/
def level : SemLoc sig → ℕ
  | .reg _ => 1
  | .dma i => if 7 ≤ i.val then 2 else 0
def lv (g : GSem nD τ sig) (_ : Unit) : ℕ := level g.2

theorem L_of_ne (g : GSem nD τ sig) (h : g.1.2 ≠ .tc) : L g = ∅ := if_neg h
theorem L_tc (c : Dev nD) (sm : SemLoc sig) : L ((c : Thread nD τ), sm) = {()} := if_pos rfl
theorem level_recv (k : Fin 4) : level (.dma (recvS k)) = 2 := if_pos (Nat.le_add_right 7 _)

theorem tallyAt_pos {g g' : GSem nD τ sig} {n : ℕ} {u : Unit} (h : 0 < tallyAt g () n g' u) : g' = g := by
  rw [tallyAt_apply] at h
  by_contra hne
  rw [if_neg (fun h' => hne h'.1)] at h
  exact absurd h (Nat.lt_irrefl 0)

theorem owe_pos (c : Dev nD) {g : GSem nD τ sig} {u : Unit} : ∀ n, 0 < owe c n g u → ∃ k, g = recvCell (across c) k
  | 0, h => absurd h (Nat.lt_irrefl 0)
  | n + 1, h => by
    rcases Nat.eq_zero_or_pos (owe c n g u) with h0 | h0
    · refine ⟨_, tallyAt_pos (u := u) (n := N) (g := recvCell (across c) (Fin.ofNat 4 (3 - n))) ?_⟩
      have h' : 0 < owe c n g u + tallyAt (recvCell (across c) (Fin.ofNat 4 (3 - n))) () N g u := h
      rwa [h0, Nat.zero_add] at h'
    · exact owe_pos c n h0

theorem O₀_pos (c : Dev nD) {g : GSem nD τ sig} {u : Unit} (h : 0 < O₀ c g u) :
    g = barCell (across c) ∨ ∃ k, g = recvCell (across c) k := by
  rcases Nat.eq_zero_or_pos (owe c 4 g u) with h0 | h0
  · refine .inl (tallyAt_pos (u := u) (n := 1) ?_)
    have h' : 0 < owe c 4 g u + tallyAt (barCell (across c)) () 1 g u := h
    rwa [h0, Nat.zero_add] at h'
  · exact .inr (owe_pos c 4 h0)

theorem mayWait_bar (c : Dev nD) : (levAts L lv : sProp 𝕄) ⊢ MayWait (c : Thread nD τ) (.reg barS) () (owe c 4) :=
  MayOwe.of_cut (L := L) (lev := lv) 1 (fun p hp => by rw [Finset.mem_singleton.mp hp, L_tc]; exact Finset.mem_singleton_self _)
    (fun g u hg => by obtain ⟨k, rfl⟩ := owe_pos c 4 hg; rw [L_tc]; exact Finset.mem_singleton_self _)
    (fun p hp => by rw [Finset.mem_singleton.mp hp]; exact le_rfl)
    (fun g u hg => by obtain ⟨k, rfl⟩ := owe_pos c 4 hg; show 1 < level (.dma (recvS k)); rw [level_recv]; decide)

abbrev 𝒱₀ : Variants := Variants.none

end Cert.KernelIdeal.Pair

end
-- ==== Proof.Steps.lean ====
/- The kernel's steps, one lemma for each kind, at any slot: staging a chunk, sending it, waiting for one that arrives, making
   a chunk of the result, waiting for a departure. -/
module

public import proofs.«01_k».proof.Proof.Proto

@[expose] public section

noncomputable section

namespace Cert.KernelIdeal.Pair

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X : Blocks F)

/-- A whole staging buffer of device `c` at contents `f`. -/
abbrev at_ (c : Dev nD) (b : Ref sig .tc) (f : b.ty.Contents (Elt F)) : sProp 𝕄 :=
  (Memref.whole b).view.loc (c : Thread nD τ) ↦{fullShare} f

/-- STAGE: load the chunk's rows, load the send slot (not used), store the chunk in the slot. -/
theorem stage_step (c : Dev nD) (k : Fin 4) (x : Vec F S1x1024x512 .bf16) {off₁ : Fin 3 → ℕ} {inb₁} {hl₁} {off₂ : Fin 3 → ℕ} {inb₂} {hl₂} {hx} {hm}
    {w : Vec F S1x128x512 .bf16 → Vec F S1x128x512 .fp8e4m3}
    {kont : PUnit → Prog (TpuEff nD τ sig (Elt F) Λ₀ .tc) PUnit} {Kt : PUnit → sProp 𝕄}
    (h₁ : off₁ = k0_off1 c (BitVec.ofNat 32 (128 * k.val))) (h₂ : off₂ = ![k.val, 0, 0]) (hw : w = k0_pay1) :
    iprop(sendAny c k ∗ at_ c cc0_stg0_0 x)
      ⊢ iprop(((owns (c : Thread nD τ) (sendSlot k) fullShare (staged x c k) ∗ at_ c cc0_stg0_0 x)
            -∗ wp frame (wpE (defs₀ (F := F)) 𝒱₀ (c : Thread nD τ) none) Set.univ (kont ⟨⟩) Kt)
        -∗ wp frame (wpE (defs₀ (F := F)) 𝒱₀ (c : Thread nD τ) none) Set.univ
            (.op (.load xM (Rect.unit (s := S1x1024x512) off₁ S1x128x512.size inb₁).toLoadRect hl₁) fun v =>
              .op (.load sendM (Rect.unit (s := S4x128x512) off₂ S1x128x512.size inb₂).toLoadRect hl₂) fun _ =>
              .op (.store sendM (Rect.unit (s := S4x128x512) off₂ S1x128x512.size inb₂) (w v) Finset.univ hx hm) kont) Kt) := by
  subst h₁ h₂ hw
  unfold sendAny owns
  iintro ⟨⟨%Y, %f, -, Hs⟩, Hx⟩ Hk
  iapply (wp_load 𝒱₀ (c : Thread nD τ) none Set.univ (m := xM) (Finset.subset_univ _)) $$ Hx; iintro Hx
  iapply (wp_load_rect 𝒱₀ (c : Thread nD τ) none Set.univ (m := sendM) (subset_refl _)) $$ Hs; iintro Hs
  iapply (wp_store 𝒱₀ (c : Thread nD τ) none Set.univ (m := sendM) (Mk := Finset.univ) (by rw [View.setOn_univ])) $$ Hs; iintro Hs
  iapply Hk
  isplitl [Hs]
  · iexists (sendSlot k).view.write (Elt F) f (staged x c k) Finset.univ
    isplitr; · ipureintro; exact View.read_write_univ _ _
    iexact Hs
  · iexact Hx

/-- What a transfer between two reshaped views leaves is read through the one view as the source was through the other. -/
theorem read_reshape_copy {κ κ' : Kind} {sp sp' : Space} {s s' : Shape} {e : EltTy} {Val : EltTy → Type} (v : View sig κ sp s e) (u : View sig κ' sp' s e)
    (h h' : s'.numel = s.numel) (fd : v.ty.Contents Val) (fs : u.ty.Contents Val) :
    v.read Val ((v.reshape s' h).write Val fd ((u.reshape s' h').read Val fs) Finset.univ) = u.read Val fs := by
  rw [View.write_reshape_univ, View.read_write_univ]
  funext x
  show u.read Val fs (Shape.reshapeEquiv _ ((Shape.reshapeEquiv _).symm x)) = _
  rw [Equiv.apply_symm_apply]

theorem landed_read (k : Fin 4) (fs : (sendM).view.ty.Contents (Elt F)) (fd : (recvM).view.ty.Contents (Elt F)) :
    (recvSlot k).view.read (Elt F) ((recvSq k).view.write (Elt F) fd ((sendSq k).view.read (Elt F) fs) Finset.univ)
      = (sendSlot k).view.read (Elt F) fs :=
  read_reshape_copy (recvSlot k).view (sendSlot k).view _ _ fd fs

theorem set_sendSq (k : Fin 4) : (sendSq k).view.set = (sendSlot k).view.set := View.set_reshape _ _
theorem set_recvSq (k : Fin 4) : (recvSq k).view.set = (recvSlot k).view.set := View.set_reshape _ _

/-- SEND: start the copy of the staged slot into the other device's receive slot. -/
theorem send_step (K : GSem nD τ sig → ℕ) (c d : Dev nD) (hdev : d = across c) (k : Fin 4) (n : ℕ) (hn : n + k.val = 3)
    {off₁ off₂ : Fin 3 → ℕ} {inb₁ hr₁ sq₁ inb₂ hr₂ sq₂} {sS sR : DmaSem sig} {hsc hsrc hdst hsem}
    {kont : PUnit → Prog (TpuEff nD τ sig (Elt F) Λ₀ .tc) PUnit} {Kt : PUnit → sProp 𝕄} (W : Waits sig Unit)
    (h₁ : off₁ = ![k.val, 0, 0]) (h₂ : off₂ = ![k.val, 0, 0]) (hs : sS = sendS k) (hR : sR = recvS k) :
    iprop(cellInv ER (talk X) (K (sendCell c k)) (sendCell c k) ∗ cellInv ER (talk X) (K (recvCell (across c) k)) (recvCell (across c) k)
        ∗ owns (c : Thread nD τ) (sendSlot k) fullShare (staged (X c) c k) ∗ recvAny (across c) k
        ∗ owes (c : Thread nD τ) (owe c (n + 1)) W
        ∗ dutyTok ER (sendCell c k) 0 () ∗ reached ER (sendCell c k) 0
        ∗ dutyTok ER (recvCell (across c) k) 0 () ∗ reached ER (recvCell (across c) k) 0)
      ⊢ iprop(((cred (tallyAt (sendCell c k) () N) ∗ owes (c : Thread nD τ) (owe c n) W)
            -∗ wp frame (wpE (defs₀ (F := F)) 𝒱₀ (c : Thread nD τ) none) Set.univ (kont ⟨⟩) Kt)
        -∗ wp frame (wpE (defs₀ (F := F)) 𝒱₀ (c : Thread nD τ) none) Set.univ
            (.op (.enqueueDma ((sendM.slice (Rect.unit (s := S4x128x512) off₁ S1x128x512.size inb₁) hr₁).squeeze S128x512 sq₁)
              (.remote (Dev.tc d) ((recvM.slice (Rect.unit (s := S4x128x512) off₂ S1x128x512.size inb₂) hr₂).squeeze S128x512 sq₂) (.dma sS) hsc)
              (.dma sR) hsrc hdst hsem) kont) Kt) := by
  subst hdev h₁ h₂ hs hR
  unfold recvAny owns
  iintro ⟨#HIs, #HIr, ⟨%fs, %hfs, Hs⟩, ⟨%Y, %fd, -, Hd⟩, HO, HtS, #HrS, HtR, #HrR⟩ Hk
  iapply (Rounds.wp_send_pointsTo 𝒱₀ ER (talk X) (c : Thread nD τ) none (c' := (across c : Thread nD τ)) (src := sendSq k) (dst := recvSq k)
      (sS := .dma (sendS k)) (sem := .dma (recvS k)) (q := fullShare) (fs := fs) (fd := fd)
      (κ₁ := K (sendCell c k)) (κ₂ := K (recvCell (across c) k)) (r₁ := 0) (r₂ := 0) (d₁ := ()) (d₂ := ())
      (mem_send X c k) (mem_recv X (across c) k) () () N rfl rfl rfl (owe c n)
      (by
        show owe c n + tallyAt (recvCell (across c) (Fin.ofNat 4 (3 - n))) () N = _
        have : (Fin.ofNat 4 (3 - n)) = k := Fin.ext (by have := k.isLt; show (3 - n) % 4 = k.val; omega)
        rw [this])
      (by
        rw [pay_send]; unfold sendPay sendAny owns; rw [set_sendSq]
        iintro H; iexists _, fs
        isplitr; · ipureintro; rfl
        iexact H)
      (by
        rw [pay_recv]; unfold recvPay owns; rw [set_recvSq, across_across]
        iintro H; iexists _
        isplitr; · ipureintro; exact (landed_read k fs fd).trans hfs
        iexact H)) $$ [Hs Hd HO HtS HtR]
  · isplitr; · iexact HIs
    isplitr; · iexact HIr
    isplitl [Hs]; · rw [set_sendSq]; iexact Hs
    isplitl [Hd]; · rw [set_recvSq]; iexact Hd
    isplitl [HO]; · iexact HO
    isplitl [HtS]; · iexact HtS
    isplitr; · iexact HrS
    isplitl [HtR]; · iexact HtR
    iexact HrR
  iexact Hk

/-- WAIT on a cell of the two arrays, nothing owed: its round's payload, and the position past it. -/
theorem wait_step (K : GSem nD τ sig → ℕ) (c : Dev nD) (i j : DmaSem sig) (hj : j = i) (hi : Used (.dma i)) {P : sProp 𝕄}
    (hP : bigSep ((talk X).duties ((c : Thread nD τ), .dma i) 0 \ ∅) (fun u => (talk X).payload ((c : Thread nD τ), .dma i) 0 u) = P)
    {src dst : Memref sig .tc .vmem S128x512 .fp8e4m3} {hsrc hdst} (hcr : dst.view.dmaCredit = N)
    {kont : PUnit → Prog (TpuEff nD τ sig (Elt F) Λ₀ .tc) PUnit} {Kt : PUnit → sProp 𝕄} :
    iprop(cellInv ER (talk X) (K ((c : Thread nD τ), .dma i)) ((c : Thread nD τ), .dma i)
        ∗ cred (tallyAt ((c : Thread nD τ), .dma i) () N) ∗ (∃ W, owes (c : Thread nD τ) 0 W) ∗ atPos ER ((c : Thread nD τ), .dma i) 0 ∅ 0)
      ⊢ iprop((((∃ W, owes (c : Thread nD τ) 0 W) ∗ atPos ER ((c : Thread nD τ), .dma i) 1 ∅ 0 ∗ P)
            -∗ wp frame (wpE (defs₀ (F := F)) 𝒱₀ (c : Thread nD τ) none) Set.univ (kont ⟨⟩) Kt)
        -∗ wp frame (wpE (defs₀ (F := F)) 𝒱₀ (c : Thread nD τ) none) Set.univ (.op (.waitDma2 j src dst hsrc hdst) kont) Kt) := by
  subst hj hP
  iintro ⟨#HI, Hc, ⟨%W, HO⟩, Hat⟩ Hk
  iapply (Rounds.wp_wait_rest_token 𝒱₀ ER (talk X) (c : Thread nD τ) none (κ := K ((c : Thread nD τ), .dma j))
      (wpE_waitDma2_eq 𝒱₀ (c : Thread nD τ) none Set.univ) (Set.mem_univ _) () (O := 0) (W := W) (R := 0) (m := 0) (T := ∅)
      (by rw [Nat.zero_add, hcr, expect_used X c _ hi]; rfl)) $$ [Hc HO Hat]
  · isplitr; · iexact HI
    isplitl [Hc]; · rw [hcr]; iexact Hc
    isplitl [HO]; · iexact HO
    isplitr; · rw [MayWait_zero]; iempintro
    iexact Hat
  iintro ⟨HO, Hat, -, Hp⟩
  iapply Hk
  isplitl [HO]; · iexists _; iexact HO
  isplitl [Hat]; · iexact Hat
  iexact Hp

theorem out_inb (k : Fin 4) : ∀ a, (![128 * k.val, 0] : Fin 2 → Nat) a + S128x512.size a ≤ S512x512.size a := by
  revert k; decide
/-- The rows of chunk `k` in the result. -/
abbrev outPiece (k : Fin 4) : Rect S512x512 := Rect.unit (s := S512x512) ![128 * k.val, 0] S128x512.size (out_inb k)

/-- MAKE: load the landed slot, the chunk's own rows, the scale row, the result's rows (not used); store the chunk made. -/
theorem make_step (c : Dev nD) (k : Fin 4) (y : Vec F S1x128x512 .fp8e4m3) (x : Vec F S1x1024x512 .bf16) (γ : Vec F S1x512 .bf16)
    (o : Vec F S512x512 .f32) (Ls : List (View.Piece (Elt F) S512x512 .f32))
    {off₁ off₂ : Fin 3 → ℕ} {off₃ : Fin 2 → ℕ} {inb₁ hl₁ inb₂ hl₂ inb₃ hl₃ hx hm} {inb₄ : ∀ a, (![0, 0] : Fin 2 → ℕ) a + S1x512.size a ≤ S1x512.size a} {hl₄}
    {w : Vec F S1x128x512 .fp8e4m3 → Vec F S1x128x512 .bf16 → Vec F S1x512 .bf16 → Vec F S128x512 .f32}
    {kont : PUnit → Prog (TpuEff nD τ sig (Elt F) Λ₀ .tc) PUnit} {Kt : PUnit → sProp 𝕄}
    (h₁ : off₁ = ![k.val, 0, 0]) (h₂ : off₂ = k0_off2 c (BitVec.ofNat 32 (128 * k.val))) (h₃ : off₃ = ![128 * k.val, 0]) (hw : w = k0_pay8) :
    iprop(owns (c : Thread nD τ) (recvSlot k) fullShare y ∗ at_ c cc0_stg0_0 x ∗ at_ c cc0_stg1_0 γ ∗ at_ c cc0_stg2_0 (oM.view.writes (Elt F) o Ls))
      ⊢ iprop(((recvAny c k ∗ at_ c cc0_stg0_0 x ∗ at_ c cc0_stg1_0 γ ∗ at_ c cc0_stg2_0 (oM.view.writes (Elt F) o (⟨outPiece k, made y x γ c k⟩ :: Ls)))
            -∗ wp frame (wpE (defs₀ (F := F)) 𝒱₀ (c : Thread nD τ) none) Set.univ (kont ⟨⟩) Kt)
        -∗ wp frame (wpE (defs₀ (F := F)) 𝒱₀ (c : Thread nD τ) none) Set.univ
            (.op (.load recvM (Rect.unit (s := S4x128x512) off₁ S1x128x512.size inb₁).toLoadRect hl₁) fun v₁ =>
              .op (.load xM (Rect.unit (s := S1x1024x512) off₂ S1x128x512.size inb₂).toLoadRect hl₂) fun v₂ =>
              .op (.load gM (Rect.unit (s := S1x512) ![0, 0] S1x512.size inb₄).toLoadRect hl₄) fun v₃ =>
              .op (.load oM (Rect.unit (s := S512x512) off₃ S128x512.size inb₃).toLoadRect hl₃) fun _ =>
              .op (.store oM (Rect.unit (s := S512x512) off₃ S128x512.size inb₃) (w v₁ v₂ v₃) Finset.univ hx hm) kont) Kt) := by
  subst h₁ h₂ h₃ hw
  unfold recvAny owns
  iintro ⟨⟨%f, %hf, Hs⟩, Hx, Hg, Ho⟩ Hk
  iapply (wp_load_rect 𝒱₀ (c : Thread nD τ) none Set.univ (m := recvM) (subset_refl _)) $$ Hs; iintro Hs
  iapply (wp_load 𝒱₀ (c : Thread nD τ) none Set.univ (m := xM) (Finset.subset_univ _)) $$ Hx; iintro Hx
  iapply (wp_load 𝒱₀ (c : Thread nD τ) none Set.univ (m := gM) (Finset.subset_univ _)) $$ Hg; iintro Hg
  iapply (wp_load 𝒱₀ (c : Thread nD τ) none Set.univ (m := oM) (Finset.subset_univ _)) $$ Ho; iintro Ho
  iapply (wp_store_writes 𝒱₀ (c : Thread nD τ) none Set.univ (m := oM) (r := outPiece k) (f := o) (L := Ls) (Finset.subset_univ _)) $$ Ho; iintro Ho
  rw [show (recvM.access (slotRect k)).read (Elt F) f = y from hf]
  iapply Hk
  isplitl [Hs]
  · iexists _, f
    isplitr; · ipureintro; rfl
    iexact Hs
  isplitl [Hx]; · iexact Hx
  isplitl [Hg]; · iexact Hg
  iexact Ho

end Cert.KernelIdeal.Pair

end
-- ==== Proof.Body.lean ====
/- The kernel's body on one device, run from what it is handed to what it leaves. -/
module

public import proofs.«01_k».proof.Proof.Steps

@[expose] public section

noncomputable section

namespace Cert.KernelIdeal.Pair

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X : Blocks F)

/-- A family over the four slots, written out. -/
theorem four (P : Fin 4 → sProp 𝕄) : bigSep Finset.univ P = iprop(P 0 ∗ P 1 ∗ P 2 ∗ P 3) := by
  rw [show (Finset.univ : Finset (Fin 4)) = insert 0 (insert 1 (insert 2 {3})) by decide,
    BI.bigSep_insert (by decide), BI.bigSep_insert (by decide), BI.bigSep_insert (by decide), bigSep_singleton]
  rfl

/-- What slot `k`'s traffic needs of the protocol: the invariants of the cells concerned, the positions on the device's own two,
    the tokens for the two duties it pays and the credit for the arrival. -/
def slotGhost (K : GSem nD τ sig → ℕ) (c : Dev nD) (k : Fin 4) : sProp 𝕄 :=
  iprop(cellInv ER (talk X) (K (sendCell c k)) (sendCell c k) ∗ cellInv ER (talk X) (K (recvCell c k)) (recvCell c k)
    ∗ cellInv ER (talk X) (K (recvCell (across c) k)) (recvCell (across c) k)
    ∗ atPos ER (sendCell c k) 0 ∅ 0 ∗ atPos ER (recvCell c k) 0 ∅ 0 ∗ reached ER (sendCell c k) 0 ∗ reached ER (recvCell c k) 0
    ∗ dutyTok ER (sendCell c k) 0 () ∗ dutyTok ER (recvCell (across c) k) 0 () ∗ cred (tallyAt (recvCell c k) () N))

def barGhost (K : GSem nD τ sig → ℕ) (c : Dev nD) : sProp 𝕄 :=
  iprop(cellInv ER (talk X) (K (barCell c)) (barCell c) ∗ cellInv ER (talk X) (K (barCell (across c))) (barCell (across c))
    ∗ atPos ER (barCell c) 0 ∅ 0 ∗ reached ER (barCell (across c)) 0 ∗ dutyTok ER (barCell (across c)) 0 ()
    ∗ cred (tallyAt (barCell c) () 1))

def bodyPre (K : GSem nD τ sig → ℕ) (c : Dev nD) (γ : Vec F S1x512 .bf16) (o : Vec F S512x512 .f32) (W : Waits sig Unit) : sProp 𝕄 :=
  iprop(barGhost X K c ∗ bigSep Finset.univ (slotGhost X K c) ∗ levAts L lv
    ∗ bigSep Finset.univ (sendAny (F := F) c) ∗ bigSep Finset.univ (recvAny (F := F) c)
    ∗ at_ c cc0_stg0_0 (X c) ∗ at_ c cc0_stg1_0 γ ∗ at_ c cc0_stg2_0 o ∗ owes (c : Thread nD τ) (O₀ c) W)

/-- The store of chunk `k` of the result, -/
abbrev piece (c : Dev nD) (γ : Vec F S1x512 .bf16) (k : Fin 4) : View.Piece (Elt F) S512x512 .f32 :=
  ⟨outPiece k, made (staged (X (across c)) (across c) k) (X c) γ c k⟩
/-- and the four, the last first. -/
def pieces (c : Dev nD) (γ : Vec F S1x512 .bf16) : List (View.Piece (Elt F) S512x512 .f32) :=
  [piece X c γ 3, piece X c γ 2, piece X c γ 1, piece X c γ 0]

theorem writes_start (c : Dev nD) (o : Vec F S512x512 .f32) :
    (at_ c cc0_stg2_0 o : sProp 𝕄) ⊢ at_ c cc0_stg2_0 (oM.view.writes (Elt F) o []) := by
  rw [View.writes_nil]

def bodyPost (c : Dev nD) (γ : Vec F S1x512 .bf16) (o : Vec F S512x512 .f32) : sProp 𝕄 :=
  iprop(semVal (barCell c) 0 ∗ bigSep Finset.univ (fun k => iprop(semVal (sendCell c k) 0 ∗ semVal (recvCell c k) 0))
    ∗ bigSep Finset.univ (sendAny (F := F) c) ∗ bigSep Finset.univ (recvAny (F := F) c)
    ∗ at_ c cc0_stg0_0 (X c) ∗ at_ c cc0_stg1_0 γ ∗ at_ c cc0_stg2_0 (oM.view.writes (Elt F) o (pieces X c γ))
    ∗ ∃ W, owes (c : Thread nD τ) (0 : CellTallies nD τ sig Unit) W)

/-- A cell past its one round is closed: its counter, at zero. -/
theorem close (κ : ℕ) (g : GSem nD τ sig) : iprop(cellInv ER (talk X) κ g ∗ atPos ER g 1 ∅ 0) ⊢ (|={Set.univ}=> semVal g 0 : sProp 𝕄) :=
  Rounds.cell_close ER (talk X) (Set.mem_univ κ) id (duties_later X g)

theorem close_slot (K : GSem nD τ sig → ℕ) (c : Dev nD) (k : Fin 4) :
    iprop(cellInv ER (talk X) (K (sendCell c k)) (sendCell c k) ∗ cellInv ER (talk X) (K (recvCell c k)) (recvCell c k)
      ∗ atPos ER (sendCell c k) 1 ∅ 0 ∗ atPos ER (recvCell c k) 1 ∅ 0)
      ⊢ (|={Set.univ}=> (semVal (sendCell c k) 0 ∗ semVal (recvCell c k) 0) : sProp 𝕄) := by
  iintro ⟨#HIs, #HIr, Hs, Hr⟩
  imod (close X (K (sendCell c k)) (sendCell c k)) $$ [Hs] with Hs
  · isplitr; · iexact HIs
    iexact Hs
  imod (close X (K (recvCell c k)) (recvCell c k)) $$ [Hr] with Hr
  · isplitr; · iexact HIr
    iexact Hr
  imodintro
  isplitl [Hs]; · iexact Hs
  iexact Hr

/-- SIGNAL the other device's barrier: it gets the device's receive slots. -/
theorem signal_step (K : GSem nD τ sig → ℕ) (c d : Dev nD) (hdev : d = across c) (W : Waits sig Unit)
    {kont : PUnit → Prog (TpuEff nD τ sig (Elt F) Λ₀ .tc) PUnit} {Kt : PUnit → sProp 𝕄} :
    iprop(cellInv ER (talk X) (K (barCell (across c))) (barCell (across c)) ∗ owes (c : Thread nD τ) (O₀ c) W ∗ dutyTok ER (barCell (across c)) 0 ()
        ∗ reached ER (barCell (across c)) 0 ∗ bigSep Finset.univ (fun k => reached ER (recvCell c k) 0) ∗ bigSep Finset.univ (recvAny (F := F) c))
      ⊢ iprop((owes (c : Thread nD τ) (owe c 4) W -∗ wp frame (wpE (defs₀ (F := F)) 𝒱₀ (c : Thread nD τ) none) Set.univ (kont ⟨⟩) Kt)
        -∗ wp frame (wpE (defs₀ (F := F)) 𝒱₀ (c : Thread nD τ) none) Set.univ (.op (.semSignal (d, .tc) barS (1#32 : BitVec 32).toInt) kont) Kt) := by
  subst hdev
  iintro ⟨#HI, HO, Ht, #Hr, #HrR, Hd⟩ Hk
  iapply (Rounds.wp_signal 𝒱₀ ER (talk X) (c : Thread nD τ) none (dst := (across c : Thread nD τ)) (sem := barS) (r := 0) (d := ()) (κ := K (barCell (across c)))
      (mem_bar X (across c)) rfl () (owe c 4) rfl) $$ [HO Ht Hd]
  · isplitr; · iexact HI
    isplitl [HO]; · iexact HO
    isplitl [Ht]; · iexact Ht
    isplitl [Hd]
    · rw [pay_bar]; unfold barPay; rw [across_across, bigSep_sep']
      isplitl [Hd]; · iexact Hd
      iexact HrR
    · iexact Hr
  iexact Hk

/-- WAIT for the barrier's unit, still owing the arrivals. -/
theorem barrier_step (K : GSem nD τ sig → ℕ) (c : Dev nD) (W : Waits sig Unit)
    {kont : PUnit → Prog (TpuEff nD τ sig (Elt F) Λ₀ .tc) PUnit} {Kt : PUnit → sProp 𝕄} :
    iprop(cellInv ER (talk X) (K (barCell c)) (barCell c) ∗ cred (tallyAt (barCell c) () 1) ∗ owes (c : Thread nD τ) (owe c 4) W ∗ levAts L lv
        ∗ atPos ER (barCell c) 0 ∅ 0)
      ⊢ iprop(((owes (c : Thread nD τ) (owe c 4) (insert (.reg barS, ()) W) ∗ atPos ER (barCell c) 1 ∅ 0 ∗ barPay c)
            -∗ wp frame (wpE (defs₀ (F := F)) 𝒱₀ (c : Thread nD τ) none) Set.univ (kont ⟨⟩) Kt)
        -∗ wp frame (wpE (defs₀ (F := F)) 𝒱₀ (c : Thread nD τ) none) Set.univ (.op (.semWait barS (1#32 : BitVec 32).toInt) kont) Kt) := by
  iintro ⟨#HI, Hc, HO, #Hlev, Hat⟩ Hk
  iapply (Rounds.wp_wait_rest_token 𝒱₀ ER (talk X) (c : Thread nD τ) none (κ := K (barCell c))
      (wpE_semWait_eq 𝒱₀ (c : Thread nD τ) none Set.univ) (Set.mem_univ _) () (O := owe c 4) (W := W) (R := 0) (m := 0) (T := ∅)
      ((Nat.zero_add 1).trans (expect_used X c _ used_bar).symm)) $$ [Hc HO Hat]
  · isplitr; · iexact HI
    isplitl [Hc]; · iexact Hc
    isplitl [HO]; · iexact HO
    isplitr; · iapply (mayWait_bar c); iexact Hlev
    iexact Hat
  iintro ⟨HO, Hat, -, Hp⟩
  ihave Hp := (Entails.of_eq (rest_bar X c)) $$ Hp
  iapply Hk
  isplitl [HO]; · iexact HO
  isplitl [Hat]; · iexact Hat
  iexact Hp

theorem owes_any (c : Dev nD) (W : Waits sig Unit) : (owes (c : Thread nD τ) (owe c 0) W : sProp 𝕄) ⊢ iprop(∃ W, owes (c : Thread nD τ) 0 W) := by
  iintro H; iexists W; iexact H

set_option maxHeartbeats 1600000 in
theorem sound_body (K : GSem nD τ sig → ℕ) (c : Dev nD) (γ : Vec F S1x512 .bf16) (o : Vec F S512x512 .f32) (W : Waits sig Unit) (Kt : PUnit → sProp 𝕄) :
    iprop(bodyPre X K c γ o W ∗ (bodyPost X c γ o -∗ Kt ⟨⟩))
      ⊢ wp frame (wpE (defs₀ (F := F)) 𝒱₀ (c : Thread nD τ) none) Set.univ
          (cc0_body xM (Memref.isWhole_whole _) gM (Memref.isWhole_whole _) oM (Memref.isWhole_whole _)
            sendM (Memref.isWhole_whole _) recvM (Memref.isWhole_whole _) (Memref.whole cc0_scratch2) (Memref.isWhole_whole _)
            (Memref.whole cc0_scratch3) (Memref.isWhole_whole _) cc0_scratch4 cc0_scratch5) Kt := by
  simp only [cc0_body_eq_skeleton]; unfold cc0_body_skel
  simp only [k0_part9_eq_skeleton]; unfold k0_part9_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, Prog.bind_assoc, wp_deviceId,
    barS_eq, sendS0, sendS1, sendS2, sendS3, recvS0, recvS1, recvS2, recvS3, dev1_across c, dev2_across c, dev3_across c, dev4_across c, dev5_across c,
    pay2_eq, pay3_eq, pay5_eq, pay7_eq, pay9_eq, pay10_eq]
  unfold bodyPre barGhost slotGhost
  simp only [four]
  iintro ⟨⟨⟨#HIb, #HIbP, HatB, #HrB, HtB, HcB⟩, ⟨⟨#HIs0, #HIr0, #HIp0, HatS0, HatR0, #HrS0, #HrR0, HtS0, HtR0, HcR0⟩, ⟨#HIs1, #HIr1, #HIp1, HatS1, HatR1, #HrS1, #HrR1, HtS1, HtR1, HcR1⟩, ⟨#HIs2, #HIr2, #HIp2, HatS2, HatR2, #HrS2, #HrR2, HtS2, HtR2, HcR2⟩, ⟨#HIs3, #HIr3, #HIp3, HatS3, HatR3, #HrS3, #HrR3, HtS3, HtR3, HcR3⟩⟩, #Hlev,
    ⟨Hs0, Hs1, Hs2, Hs3⟩, Hd, Hx, Hg, Ho, HO⟩, Hk⟩
  -- the signal hands the four receive slots over
  iapply (signal_step X K c (across c) rfl W) $$ [HO HtB Hd]
  · isplitr; · iexact HIbP
    isplitl [HO]; · iexact HO
    isplitl [HtB]; · iexact HtB
    isplitr; · iexact HrB
    simp only [four]
    isplitr
    · isplitr; · iexact HrR0
      isplitr; · iexact HrR1
      isplitr; · iexact HrR2
      iexact HrR3
    · iexact Hd
  iintro HO
  iapply (stage_step c 0 (X c) rfl rfl rfl) $$ [Hs0 Hx]
  · isplitl [Hs0] <;> iassumption
  iintro ⟨Hs0, Hx⟩
  -- the barrier's unit brings the other device's four
  iapply (barrier_step X K c W) $$ [HcB HO HatB]
  · isplitr; · iexact HIb
    isplitl [HcB]; · iexact HcB
    isplitl [HO]; · iexact HO
    isplitr; · iexact Hlev
    iexact HatB
  iintro ⟨HO, HatB, Hpay⟩
  unfold barPay
  simp only [four]
  icases Hpay with ⟨⟨Hd0, #HrP0⟩, ⟨Hd1, #HrP1⟩, ⟨Hd2, #HrP2⟩, ⟨Hd3, #HrP3⟩⟩
  iapply (send_step X K c _ (dev2_across c _) 0 3 rfl _ rfl rfl rfl rfl) $$ [Hs0 Hd0 HO HtS0 HtR0]
  · isplitr; · iexact HIs0
    isplitr; · iexact HIp0
    isplitl [Hs0]; · iexact Hs0
    isplitl [Hd0]; · iexact Hd0
    isplitl [HO]; · iexact HO
    isplitl [HtS0]; · iexact HtS0
    isplitr; · iexact HrS0
    isplitl [HtR0]; · iexact HtR0
    iexact HrP0
  iintro ⟨HcS0, HO⟩
  iapply (stage_step c 1 (X c) rfl rfl rfl) $$ [Hs1 Hx]
  · isplitl [Hs1] <;> iassumption
  iintro ⟨Hs1, Hx⟩
  iapply (send_step X K c _ (dev3_across c _) 1 2 rfl _ rfl rfl rfl rfl) $$ [Hs1 Hd1 HO HtS1 HtR1]
  · isplitr; · iexact HIs1
    isplitr; · iexact HIp1
    isplitl [Hs1]; · iexact Hs1
    isplitl [Hd1]; · iexact Hd1
    isplitl [HO]; · iexact HO
    isplitl [HtS1]; · iexact HtS1
    isplitr; · iexact HrS1
    isplitl [HtR1]; · iexact HtR1
    iexact HrP1
  iintro ⟨HcS1, HO⟩
  iapply (stage_step c 2 (X c) rfl rfl rfl) $$ [Hs2 Hx]
  · isplitl [Hs2] <;> iassumption
  iintro ⟨Hs2, Hx⟩
  iapply (send_step X K c _ (dev4_across c _) 2 1 rfl _ rfl rfl rfl rfl) $$ [Hs2 Hd2 HO HtS2 HtR2]
  · isplitr; · iexact HIs2
    isplitr; · iexact HIp2
    isplitl [Hs2]; · iexact Hs2
    isplitl [Hd2]; · iexact Hd2
    isplitl [HO]; · iexact HO
    isplitl [HtS2]; · iexact HtS2
    isplitr; · iexact HrS2
    isplitl [HtR2]; · iexact HtR2
    iexact HrP2
  iintro ⟨HcS2, HO⟩
  iapply (stage_step c 3 (X c) rfl rfl rfl) $$ [Hs3 Hx]
  · isplitl [Hs3] <;> iassumption
  iintro ⟨Hs3, Hx⟩
  iapply (send_step X K c _ (dev5_across c _) 3 0 rfl _ rfl rfl rfl rfl) $$ [Hs3 Hd3 HO HtS3 HtR3]
  · isplitr; · iexact HIs3
    isplitr; · iexact HIp3
    isplitl [Hs3]; · iexact Hs3
    isplitl [Hd3]; · iexact Hd3
    isplitl [HO]; · iexact HO
    isplitl [HtS3]; · iexact HtS3
    isplitr; · iexact HrS3
    isplitl [HtR3]; · iexact HtR3
    iexact HrP3
  iintro ⟨HcS3, HO⟩
  ihave HO := (owes_any c _) $$ HO
  ihave Ho := (writes_start c o) $$ Ho
  iapply (wait_step X K c (recvS 0) _ rfl (used_recv 0) (rest_recv X c 0) (credit_recvSq 0)) $$ [HcR0 HO HatR0]
  · isplitr; · iexact HIr0
    isplitl [HcR0]; · iexact HcR0
    isplitl [HO]; · iexact HO
    iexact HatR0
  iintro ⟨HO, HatR0, Hd0⟩
  iapply (make_step c 0 (staged (X (across c)) (across c) 0) (X c) γ o [] rfl rfl rfl rfl) $$ [Hd0 Hx Hg Ho]
  · isplitl [Hd0]; · unfold recvPay; iexact Hd0
    isplitl [Hx]; · iexact Hx
    isplitl [Hg]; · iexact Hg
    iexact Ho
  iintro ⟨Hd0, Hx, Hg, Ho⟩
  iapply (wait_step X K c (recvS 1) _ rfl (used_recv 1) (rest_recv X c 1) (credit_recvSq 1)) $$ [HcR1 HO HatR1]
  · isplitr; · iexact HIr1
    isplitl [HcR1]; · iexact HcR1
    isplitl [HO]; · iexact HO
    iexact HatR1
  iintro ⟨HO, HatR1, Hd1⟩
  iapply (make_step c 1 (staged (X (across c)) (across c) 1) (X c) γ o [piece X c γ 0] rfl rfl rfl rfl) $$ [Hd1 Hx Hg Ho]
  · isplitl [Hd1]; · unfold recvPay; iexact Hd1
    isplitl [Hx]; · iexact Hx
    isplitl [Hg]; · iexact Hg
    iexact Ho
  iintro ⟨Hd1, Hx, Hg, Ho⟩
  iapply (wait_step X K c (recvS 2) _ rfl (used_recv 2) (rest_recv X c 2) (credit_recvSq 2)) $$ [HcR2 HO HatR2]
  · isplitr; · iexact HIr2
    isplitl [HcR2]; · iexact HcR2
    isplitl [HO]; · iexact HO
    iexact HatR2
  iintro ⟨HO, HatR2, Hd2⟩
  iapply (make_step c 2 (staged (X (across c)) (across c) 2) (X c) γ o [piece X c γ 1, piece X c γ 0] rfl rfl rfl rfl) $$ [Hd2 Hx Hg Ho]
  · isplitl [Hd2]; · unfold recvPay; iexact Hd2
    isplitl [Hx]; · iexact Hx
    isplitl [Hg]; · iexact Hg
    iexact Ho
  iintro ⟨Hd2, Hx, Hg, Ho⟩
  iapply (wait_step X K c (recvS 3) _ rfl (used_recv 3) (rest_recv X c 3) (credit_recvSq 3)) $$ [HcR3 HO HatR3]
  · isplitr; · iexact HIr3
    isplitl [HcR3]; · iexact HcR3
    isplitl [HO]; · iexact HO
    iexact HatR3
  iintro ⟨HO, HatR3, Hd3⟩
  iapply (make_step c 3 (staged (X (across c)) (across c) 3) (X c) γ o [piece X c γ 2, piece X c γ 1, piece X c γ 0] rfl rfl rfl rfl) $$ [Hd3 Hx Hg Ho]
  · isplitl [Hd3]; · unfold recvPay; iexact Hd3
    isplitl [Hx]; · iexact Hx
    isplitl [Hg]; · iexact Hg
    iexact Ho
  iintro ⟨Hd3, Hx, Hg, Ho⟩
  iapply (wait_step X K c (sendS 0) _ rfl (used_send 0) (rest_send X c 0) (credit_sendSq 0)) $$ [HcS0 HO HatS0]
  · isplitr; · iexact HIs0
    isplitl [HcS0]; · iexact HcS0
    isplitl [HO]; · iexact HO
    iexact HatS0
  iintro ⟨HO, HatS0, Hs0⟩
  iapply (wait_step X K c (sendS 1) _ rfl (used_send 1) (rest_send X c 1) (credit_sendSq 1)) $$ [HcS1 HO HatS1]
  · isplitr; · iexact HIs1
    isplitl [HcS1]; · iexact HcS1
    isplitl [HO]; · iexact HO
    iexact HatS1
  iintro ⟨HO, HatS1, Hs1⟩
  iapply (wait_step X K c (sendS 2) _ rfl (used_send 2) (rest_send X c 2) (credit_sendSq 2)) $$ [HcS2 HO HatS2]
  · isplitr; · iexact HIs2
    isplitl [HcS2]; · iexact HcS2
    isplitl [HO]; · iexact HO
    iexact HatS2
  iintro ⟨HO, HatS2, Hs2⟩
  iapply (wait_step X K c (sendS 3) _ rfl (used_send 3) (rest_send X c 3) (credit_sendSq 3)) $$ [HcS3 HO HatS3]
  · isplitr; · iexact HIs3
    isplitl [HcS3]; · iexact HcS3
    isplitl [HO]; · iexact HO
    iexact HatS3
  iintro ⟨HO, HatS3, Hs3⟩
  rw [wp_ret]
  imod (close X (K (barCell c)) (barCell c)) $$ [HatB] with HzB
  · isplitr; · iexact HIb
    iexact HatB
  imod (close_slot X K c 0) $$ [HatS0 HatR0] with Hz0
  · isplitr; · iexact HIs0
    isplitr; · iexact HIr0
    isplitl [HatS0] <;> iassumption
  imod (close_slot X K c 1) $$ [HatS1 HatR1] with Hz1
  · isplitr; · iexact HIs1
    isplitr; · iexact HIr1
    isplitl [HatS1] <;> iassumption
  imod (close_slot X K c 2) $$ [HatS2 HatR2] with Hz2
  · isplitr; · iexact HIs2
    isplitr; · iexact HIr2
    isplitl [HatS2] <;> iassumption
  imod (close_slot X K c 3) $$ [HatS3 HatR3] with Hz3
  · isplitr; · iexact HIs3
    isplitr; · iexact HIr3
    isplitl [HatS3] <;> iassumption
  imodintro
  iapply Hk
  unfold bodyPost pieces sendPay
  simp only [four]
  isplitl [HzB]; · iexact HzB
  isplitl [Hz0 Hz1 Hz2 Hz3]
  · isplitl [Hz0]; · iexact Hz0
    isplitl [Hz1]; · iexact Hz1
    isplitl [Hz2] <;> iassumption
  isplitl [Hs0 Hs1 Hs2 Hs3]
  · isplitl [Hs0]; · iexact Hs0
    isplitl [Hs1]; · iexact Hs1
    isplitl [Hs2] <;> iassumption
  isplitl [Hd0 Hd1 Hd2 Hd3]
  · isplitl [Hd0]; · iexact Hd0
    isplitl [Hd1]; · iexact Hd1
    isplitl [Hd2] <;> iassumption
  isplitl [Hx]; · iexact Hx
  isplitl [Hg]; · iexact Hg
  isplitl [Ho]; · iexact Ho
  iexact HO

end Cert.KernelIdeal.Pair

end
-- ==== Proof.Result.lean ====
/- The block of the result a device leaves: what it makes of each landed slot, each at its rows. -/
module

public import proofs.«01_k».proof.Proof.Body

@[expose] public section

noncomputable section

namespace Cert.KernelIdeal.Pair

open Idealize.ShloMosaic Idealize.ShloMosaic.TcCoe
open Cert.KernelIdeal.Gen

variable {F : FTy → Type} [FloatOps F]

variable (X : Blocks F)

/-- The chunk a row of the result is in, -/
def chunkOf (i : S512x512.Idx) : Fin 4 := ⟨(i 0).val / 128, by have h : (i 0).val < 512 := (i 0).isLt; omega⟩
/-- and its place in the chunk. -/
def within (i : S512x512.Idx) : S128x512.Idx := fun
  | 0 => ⟨(i 0).val % 128, Nat.mod_lt _ (by decide)⟩
  | 1 => ⟨(i 1).val, (i 1).isLt⟩

/-- What device `c` leaves in its block of the result. -/
def result (c : Dev nD) (γ : Vec F S1x512 .bf16) : Vec F S512x512 .f32 := fun i =>
  made (staged (X (across c)) (across c) (chunkOf i)) (X c) γ c (chunkOf i) (within i)

theorem chunkOf_emb (k : Fin 4) (x : S128x512.Idx) : chunkOf ((outPiece k).emb x) = k := by
  refine Fin.ext ?_
  show (128 * k.val + 1 * (x 0).val) / 128 = k.val
  have h : (x 0).val < 128 := (x 0).isLt
  omega

theorem within_emb (k : Fin 4) (x : S128x512.Idx) : within ((outPiece k).emb x) = x := by
  funext a
  match a with
  | 0 =>
    refine Fin.ext ?_
    show (128 * k.val + 1 * (x 0).val) % 128 = (x 0).val
    have h : (x 0).val < 128 := (x 0).isLt
    omega
  | 1 =>
    refine Fin.ext ?_
    show 0 + 1 * (x 1).val = (x 1).val
    omega

theorem emb_within (i : S512x512.Idx) : (outPiece (chunkOf i)).emb (within i) = i := by
  funext a
  match a with
  | 0 =>
    refine Fin.ext ?_
    show 128 * ((i 0).val / 128) + 1 * ((i 0).val % 128) = (i 0).val
    omega
  | 1 =>
    refine Fin.ext ?_
    show 0 + 1 * (i 1).val = (i 1).val
    omega

theorem piece_mem (c : Dev nD) (γ : Vec F S1x512 .bf16) (k : Fin 4) : piece X c γ k ∈ pieces X c γ := by
  unfold pieces
  match k with
  | 0 => simp
  | 1 => simp
  | 2 => simp
  | 3 => simp

theorem mem_pieces (c : Dev nD) (γ : Vec F S1x512 .bf16) {p : View.Piece (Elt F) S512x512 .f32} (h : p ∈ pieces X c γ) :
    ∃ k, p = piece X c γ k := by
  unfold pieces at h
  simp only [List.mem_cons, List.not_mem_nil, or_false] at h
  rcases h with rfl | rfl | rfl | rfl <;> exact ⟨_, rfl⟩

theorem piece_read (c : Dev nD) (γ : Vec F S1x512 .bf16) (k : Fin 4) (x : S128x512.Idx) :
    result X c γ ((outPiece k).emb x) = made (staged (X (across c)) (across c) k) (X c) γ c k x := by
  unfold result
  rw [chunkOf_emb, within_emb]

theorem mem_own (i : S512x512.Idx) : i ∈ (outPiece (chunkOf i)).set := by
  rw [Rect.mem_set_unit]
  intro a
  match a with
  | 0 =>
    show 128 * ((i 0).val / 128) ≤ (i 0).val ∧ (i 0).val < 128 * ((i 0).val / 128) + 128
    omega
  | 1 => exact ⟨Nat.zero_le _, by show (i 1).val < 0 + 512; have h : (i 1).val < 512 := (i 1).isLt; omega⟩

/-- The four stores fill the buffer, whatever it held. -/
theorem writes_pieces (c : Dev nD) (γ : Vec F S1x512 .bf16) (o : Vec F S512x512 .f32) :
    oM.view.writes (Elt F) o (pieces X c γ) = result X c γ := by
  funext i
  have h := View.read_writes_apply_of_pieces oM.view o (result X c γ) (pieces X c γ)
    (fun p hp x => by
      obtain ⟨k, rfl⟩ := mem_pieces X c γ hp
      exact (piece_read X c γ k x).symm) i
    ⟨piece X c γ (chunkOf i), piece_mem X c γ _, mem_own i⟩
  rw [View.read_whole] at h
  exact h

end Cert.KernelIdeal.Pair

end
-- ==== Proof.Data.lean ====
/- The staging pipeline's proof data for the one region, and the body's obligation from its run. -/
module

public import proofs.«01_k».proof.Proof.Result
public import proofs.«01_k».proof.Proof.Gen.KernelIdeal.Frame
public import Idealize.ShloMosaic.Lib.Pipeline.ValueKit

@[expose] public section

noncomputable section

namespace Cert.KernelIdeal.Pair

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

/-! ## A four-slot buffer, whole and slot by slot -/

theorem send_set (k : Fin 4) : (sendSlot k).view.set = (slotRect k).set := View.set_slice_whole _ _
theorem recv_set (k : Fin 4) : (recvSlot k).view.set = (slotRect k).set := View.set_slice_whole _ _

/-- A buffer of contents nothing is known of. -/
def blank (s : Shape) : s.Idx → Elt F .fp8e4m3 := fun _ => FloatOps.ofBits .fp8e4m3 0

theorem send_slot (c : Dev nD) (k : Fin 4) (f : cc0_scratch0.ty.Contents (Elt F)) :
    (((c : Thread nD τ).loc cc0_scratch0) ↦[(slotRect k).set]{fullShare} f : sProp 𝕄) ⊢ sendAny (F := F) c k := by
  unfold sendAny owns
  rw [send_set k]
  iintro H; iexists _, f
  isplitr; · ipureintro; rfl
  iexact H
theorem send_slot_any (c : Dev nD) (k : Fin 4) :
    sendAny (F := F) c k ⊢ (iprop(∃ f, ((c : Thread nD τ).loc cc0_scratch0) ↦[(slotRect k).set]{fullShare} f) : sProp 𝕄) := by
  unfold sendAny owns
  rw [send_set k]
  iintro ⟨%Y, %f, -, H⟩; iexists f; iexact H

theorem send_split (c : Dev nD) (f : cc0_scratch0.ty.Contents (Elt F)) :
    (at_ c cc0_scratch0 f : sProp 𝕄) ⊢ bigSep Finset.univ (sendAny (F := F) c) :=
  (Entails.of_eq (Ring.pointsTo_blocks (ℓ := (c : Thread nD τ).loc cc0_scratch0) (fun k => (slotRect k).set) slots_disjoint slots_cover f)).trans
    (bigSep_mono fun k _ => send_slot c k f)
theorem send_join (c : Dev nD) : bigSep Finset.univ (sendAny (F := F) c) ⊢ (iprop(∃ f, at_ c cc0_scratch0 f) : sProp 𝕄) :=
  (bigSep_mono fun k _ => send_slot_any c k).trans
    (Ring.pointsTo_blocks_join_exists (ℓ := (c : Thread nD τ).loc cc0_scratch0) (fun k => (slotRect k).set) slots_disjoint slots_cover (blank _))

theorem recv_slot (c : Dev nD) (k : Fin 4) (f : cc0_scratch1.ty.Contents (Elt F)) :
    (((c : Thread nD τ).loc cc0_scratch1) ↦[(slotRect k).set]{fullShare} f : sProp 𝕄) ⊢ recvAny (F := F) c k := by
  unfold recvAny owns
  rw [recv_set k]
  iintro H; iexists _, f
  isplitr; · ipureintro; rfl
  iexact H
theorem recv_slot_any (c : Dev nD) (k : Fin 4) :
    recvAny (F := F) c k ⊢ (iprop(∃ f, ((c : Thread nD τ).loc cc0_scratch1) ↦[(slotRect k).set]{fullShare} f) : sProp 𝕄) := by
  unfold recvAny owns
  rw [recv_set k]
  iintro ⟨%Y, %f, -, H⟩; iexists f; iexact H

theorem recv_split (c : Dev nD) (f : cc0_scratch1.ty.Contents (Elt F)) :
    (at_ c cc0_scratch1 f : sProp 𝕄) ⊢ bigSep Finset.univ (recvAny (F := F) c) :=
  (Entails.of_eq (Ring.pointsTo_blocks (ℓ := (c : Thread nD τ).loc cc0_scratch1) (fun k => (slotRect k).set) slots_disjoint slots_cover f)).trans
    (bigSep_mono fun k _ => recv_slot c k f)
theorem recv_join (c : Dev nD) : bigSep Finset.univ (recvAny (F := F) c) ⊢ (iprop(∃ f, at_ c cc0_scratch1 f) : sProp 𝕄) :=
  (bigSep_mono fun k _ => recv_slot_any c k).trans
    (Ring.pointsTo_blocks_join_exists (ℓ := (c : Thread nD τ).loc cc0_scratch1) (fun k => (slotRect k).set) slots_disjoint slots_cover (blank _))

/-! ## The proof data -/

variable (m : (ℓ : Loc nD τ sig) → Buf (Elt F) ℓ)

/-- Every device's block as launched; the scale row as the region finds it. -/
abbrev X₀ : Blocks F := fun c => m ((c : Thread nD τ).loc main_arg0)
abbrev γ₀ (c : Dev nD) : Vec F S1x512 .bf16 := V m c main_v1

theorem index0 : ∀ (t : Fin grid0.N) (a : Fin 3), win0_0.index t a = 0 := by decide
theorem index1 : ∀ (t : Fin grid0.N) (a : Fin 2), win0_1.index t a = 0 := by decide
theorem block0 (c : Dev nD) (t : Fin cfg0.N) : iblk m c 0 t = X₀ m c := by
  refine Eq.trans (funext fun j => ?_) (V_main_arg0 m c)
  unfold iblk
  blk_ext [index0 t]
theorem block1 (c : Dev nD) (t : Fin cfg0.N) : iblk m c 1 t = γ₀ m c := by
  funext j
  unfold iblk
  blk_ext [index1 t]

/-- What a device holds of the protocol when it enters the region, -/
def opened (K : GSem nD τ sig → ℕ) (c : Dev nD) : sProp 𝕄 := iprop(barGhost (X₀ m) K c ∗ bigSep Finset.univ (slotGhost (X₀ m) K c))
/-- and its eight counters back at zero. -/
def zeros (c : Dev nD) : sProp 𝕄 := bigSep Finset.univ (fun k => iprop(semVal (sendCell c k) 0 ∗ semVal (recvCell c k) 0))

/-- The region's scratch and its generator register, nothing known of them. -/
def spare (c : Dev nD) : sProp 𝕄 :=
  iprop(Pipeline.scopedRest (Ix := Unit) (Name := ℕ) (U := UU) (Lvl := ℕ) (Val := Elt F) spec0 c ∗ ∃ r, prngReg c r)

def Φin (c : Dev nD) : sProp 𝕄 := iprop((∃ K, opened m K c) ∗ levAts L lv ∗ spare c)
def Φout (c : Dev nD) : sProp 𝕄 := iprop(semVal (barCell c) 0 ∗ zeros c ∗ spare c)

def dat0 (c : Dev nD) : Dat τ (Elt F) Unit ℕ UU ℕ cfg0 c where
  A w := V m c (Pipeline.arrRef spec0 w)
  after := fun
    | 0 => iblk m c 0
    | 1 => iblk m c 1
    | 2 => fun _ => result (X₀ m) c (γ₀ m c)
    | ⟨_ + 3, h⟩ => absurd h (Nat.not_lt.2 (Nat.le_add_left _ _))
  Φ t := if t.val = 0 then Φin m c else Φout c
  q _ := fullShare
  owed t := if t.val = 0 then O₀ c else 0

theorem before_0 (c : Dev nD) (t : Fin cfg0.N) (d) : (dat0 m c).before 0 t d = X₀ m c :=
  (((dat0 m c).before_in_eq_fetched 0 rfl (fun _ => rfl) (fun _ _ _ => rfl) (fun _ => rfl) t d).trans rfl).trans (block0 m c t)
theorem before_1 (c : Dev nD) (t : Fin cfg0.N) (d) : (dat0 m c).before 1 t d = γ₀ m c :=
  (((dat0 m c).before_in_eq_fetched 1 rfl (fun _ => rfl) (fun _ _ _ => rfl) (fun _ => rfl) t d).trans rfl).trans (block1 m c t)

end Cert.KernelIdeal.Pair

end
-- ==== Proof.Oblige.lean ====
/- The body's obligation to the staging pipeline: the run of `Body`, between the buffers as the region keeps them. -/
module

public import proofs.«01_k».proof.Proof.Data
public import proofs.«01_k».proof.Proof.Gen.KernelIdeal.Points

@[expose] public section

noncomputable section

namespace Cert.KernelIdeal.Pair

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ)

theorem owed_first (c : Dev nD) : (dat0 m c).owed t0_0.castSucc = O₀ c := by
  show (if (t0_0.castSucc : Fin (cfg0.N + 1)).val = 0 then O₀ c else 0) = O₀ c; exact if_pos rfl
theorem owed_start (c : Dev nD) : (dat0 m c).owed 0 = O₀ c := by
  show (if (0 : Fin (cfg0.N + 1)).val = 0 then O₀ c else 0) = O₀ c; exact if_pos rfl
theorem owed_end (c : Dev nD) : (dat0 m c).owed (Fin.last _) = 0 := by
  show (if (Fin.last cfg0.N).val = 0 then O₀ c else 0) = 0
  rw [Fin.val_last, if_neg (by rw [show cfg0.N = 1 from N_0]; decide)]

theorem owes_at (c : Dev nD) (t : Fin (cfg0.N + 1)) (O : CellTallies nD τ sig Unit) (h : (dat0 m c).owed t = O) (W : Waits sig Unit) :
    (owes (c : Thread nD τ) O W : sProp 𝕄) ⊢ (dat0 m c).owesAt () t := by
  unfold Dat.owesAt Pipeline.owesWithin Dat.bound
  rw [h]
  iintro H; iexists W
  isplitr; · ipureintro; exact fun _ _ => Or.inl trivial
  iexact H
theorem owes_of (c : Dev nD) (t : Fin (cfg0.N + 1)) (O : CellTallies nD τ sig Unit) (h : (dat0 m c).owed t = O) :
    ((dat0 m c).owesAt () t : sProp 𝕄) ⊢ iprop(∃ W, owes (c : Thread nD τ) O W) := by
  unfold Dat.owesAt Pipeline.owesWithin
  rw [h]
  iintro ⟨%W, -, H⟩; iexists W; iexact H

theorem at_in0 (c : Dev nD) (d) : (owns (c : Thread nD τ) (st0_0 t0_0) fullShare ((dat0 m c).before 0 t0_0 d) : sProp 𝕄)
    ⊢ at_ c cc0_stg0_0 (X₀ m c) := by rw [before_0, st0_0]; exact Entails.of_eq (owns_whole _ _ _ _)
theorem at_in1 (c : Dev nD) (d) : (owns (c : Thread nD τ) (st0_1 t0_0) fullShare ((dat0 m c).before 1 t0_0 d) : sProp 𝕄)
    ⊢ at_ c cc0_stg1_0 (γ₀ m c) := by rw [before_1, st0_1]; exact Entails.of_eq (owns_whole _ _ _ _)
theorem at_in2 (c : Dev nD) (f) : (owns (c : Thread nD τ) (st0_2 t0_0) fullShare f : sProp 𝕄)
    ⊢ at_ c cc0_stg2_0 f := Entails.of_eq (owns_whole _ _ _ _)
theorem at_out0 (c : Dev nD) : (at_ c cc0_stg0_0 (X₀ m c) : sProp 𝕄)
    ⊢ owns (c : Thread nD τ) (st0_0 t0_0) fullShare ((dat0 m c).after 0 t0_0) := by
  rw [show (dat0 m c).after 0 t0_0 = X₀ m c from block0 m c t0_0]; exact Entails.of_eq (owns_whole _ _ _ _).symm
theorem at_out1 (c : Dev nD) : (at_ c cc0_stg1_0 (γ₀ m c) : sProp 𝕄)
    ⊢ owns (c : Thread nD τ) (st0_1 t0_0) fullShare ((dat0 m c).after 1 t0_0) := by
  rw [show (dat0 m c).after 1 t0_0 = γ₀ m c from block1 m c t0_0]; exact Entails.of_eq (owns_whole _ _ _ _).symm
theorem at_out2 (c : Dev nD) (o) : (at_ c cc0_stg2_0 (oM.view.writes (Elt F) o (pieces (X₀ m) c (γ₀ m c))) : sProp 𝕄)
    ⊢ owns (c : Thread nD τ) (st0_2 t0_0) fullShare ((dat0 m c).after 2 t0_0) := by
  rw [writes_pieces]; exact Entails.of_eq (owns_whole _ _ _ _).symm

theorem defs₀_row (t : Fin cfg0.N) : defs₀ (F := F) .tc cfg0.body (cfg0.bodyArgs t (cfg0.slots t)) = bodyAt0 t := by
  unfold defs₀; rw [Defs.onTc_tc]

/-- The scratch handed to the body: eight slots, and the two buffers it has no use for. -/
def idle (c : Dev nD) : sProp 𝕄 :=
  iprop((∃ f, at_ c cc0_scratch2 f) ∗ (∃ f, at_ c cc0_scratch3 f) ∗ ∃ r, prngReg c r)
theorem spare_split (c : Dev nD) : (spare c : sProp 𝕄)
    ⊢ iprop(bigSep Finset.univ (sendAny (F := F) c) ∗ bigSep Finset.univ (recvAny (F := F) c) ∗ idle c) := by
  unfold spare idle
  rw [scopedRest0_eq]
  iintro ⟨⟨⟨%f, Hs⟩, ⟨%g, Hr⟩, H2, H3⟩, Hp⟩
  isplitl [Hs]; · iapply (send_split c f) $$ Hs
  isplitl [Hr]; · iapply (recv_split c g) $$ Hr
  isplitl [H2]; · iexact H2
  isplitl [H3]; · iexact H3
  iexact Hp
theorem spare_join (c : Dev nD) : iprop(bigSep Finset.univ (sendAny (F := F) c) ∗ bigSep Finset.univ (recvAny (F := F) c) ∗ idle c)
    ⊢ (spare c : sProp 𝕄) := by
  unfold spare idle
  rw [scopedRest0_eq]
  iintro ⟨Hs, Hr, H2, H3, Hp⟩
  isplitr [Hp]
  · isplitl [Hs]; · iapply (send_join c) $$ Hs
    isplitl [Hr]; · iapply (recv_join c) $$ Hr
    isplitl [H2]; · iexact H2
    iexact H3
  iexact Hp

theorem phi_first (c : Dev nD) : (dat0 m c).Φ t0_0.castSucc = Φin m c := by
  show (if (t0_0.castSucc : Fin (cfg0.N + 1)).val = 0 then Φin m c else Φout c) = _; exact if_pos rfl
theorem phi_next (c : Dev nD) : (dat0 m c).Φ t0_0.succ = Φout c := by
  show (if (t0_0.succ : Fin (cfg0.N + 1)).val = 0 then Φin m c else Φout c) = _; exact if_neg (Nat.succ_ne_zero _)

theorem body0 (c : Dev nD) : BodyObligation (dat0 m c) (defs₀ (F := F)) 𝒱₀ () Set.univ := fun t => by
  obtain rfl := fin_N0 t
  rw [bigSep_W0, bigSep_W0, defs₀_row, phi_first, phi_next]
  unfold Φin Φout opened
  iintro ⟨⟨⟨%K, HB, HS⟩, Hlev, Hsp⟩, HO, ⟨%d0, H0⟩, ⟨%d1, H1⟩, ⟨%d2, H2⟩⟩
  ihave HO' := (owes_of m c _ (O₀ c) (owed_first m c)) $$ HO
  icases HO' with ⟨%W, HO⟩
  ihave Hsp' := (spare_split (F := F) c) $$ Hsp
  icases Hsp' with ⟨Hsend, Hrecv, Hidle⟩
  ihave H0 := (at_in0 m c d0) $$ H0
  ihave H1 := (at_in1 m c d1) $$ H1
  ihave H2 := (at_in2 (F := F) c _) $$ H2
  iapply (sound_body (X₀ m) K c (γ₀ m c) _ W _)
  isplitr [Hidle]
  · unfold bodyPre
    isplitl [HB]; · iexact HB
    isplitl [HS]; · iexact HS
    isplitl [Hlev]; · iexact Hlev
    isplitl [Hsend]; · iexact Hsend
    isplitl [Hrecv]; · iexact Hrecv
    isplitl [H0]; · iexact H0
    isplitl [H1]; · iexact H1
    isplitl [H2]; · iexact H2
    iexact HO
  unfold bodyPost zeros
  iintro ⟨Hb, Hz, Hsend, Hrecv, H0, H1, H2, ⟨%W', HO⟩⟩
  isplitl [Hb Hz Hsend Hrecv Hidle]
  · isplitl [Hb]; · iexact Hb
    isplitl [Hz]; · iexact Hz
    iapply (spare_join (F := F) c)
    isplitl [Hsend]; · iexact Hsend
    isplitl [Hrecv]; · iexact Hrecv
    iexact Hidle
  isplitl [HO]; · iapply (owes_at m c t0_0.succ 0 (owed_end m c) W') $$ HO
  isplitl [H0]; · iapply (at_out0 m c) $$ H0
  isplitl [H1]; · iapply (at_out1 m c) $$ H1
  iapply (at_out2 m c _) $$ H2

end Cert.KernelIdeal.Pair

end
-- ==== Proof.Region.lean ====
/- The kernel's region of @main: what enters it, the opening of the eight cells of the arrays, what leaves it. -/
module

public import proofs.«01_k».proof.Proof.Oblige
public import Idealize.ShloMosaic.Lib.Pipeline.RegionTalk
public import Idealize.ShloMosaic.Lib.Pipeline.FrameTail
public import Idealize.ShloMosaic.Lib.Pipeline.RegionArraysS

@[expose] public section

noncomputable section

namespace Cert.KernelIdeal.Pair

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ)

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

/-! ## The buffers outside the region's scratch -/

abbrev bufs : Finset (DevRef τ sig) := Pipeline.ucRefs τ sig
/-- The windows' arrays, and the one buffer that is none: the scale as given, before its reshape. -/
abbrev arrs : Finset (DevRef τ sig) := Pipeline.arrRefs (τ := τ) spec0
abbrev others : Finset (DevRef τ sig) := bufs \ arrs
theorem arrs_sub : arrs ⊆ bufs := Pipeline.arrRefs_sub_ucRefs spec0 winFacts0.arr_unscoped

abbrev V₀ (c : Dev nD) : Valuation τ sig (Elt F) := fun b => m (c, b)
abbrev V₁ (c : Dev nD) : Valuation τ sig (Elt F) := StableHlo.after hostOps0 (V₀ m c)
abbrev V₂ (c : Dev nD) : Valuation τ sig (Elt F) := Pipeline.afterRegion (dat0 m c) (V₁ m c)

theorem V₂_arr (c : Dev nD) (w : Fin 3) : V₂ m c (Proc.devRef .tc (Pipeline.arrRef spec0 w)) = (dat0 m c).arrAt w cfg0.N :=
  Pipeline.afterRegion_arr (dat0 m c) (V₁ m c) winFacts0.arr_inj w

/-! ## The ghost state before the region: the arrays' cells not yet open -/

/-- The semaphores of slot `k`: of its departure, of its arrival. -/
def osem (ki : Fin 4 × Fin 2) : SemLoc sig := if ki.2 = 0 then .dma (sendS ki.1) else .dma (recvS ki.1)

theorem own_eq (c : Dev nD) : (Pipeline.ownSems0 osem c : sProp 𝕄) = zeros c := by
  unfold Pipeline.ownSems0 zeros
  rw [bigSep_univ_prod]
  exact bigSep_congr fun k _ => BI.bigSep_fin_two (fun i : Fin 2 => (semVal ((c : Thread nD τ), osem (k, i)) 0 : sProp 𝕄))

variable (X : Blocks F)

/-- `slotGhost` with the device's two cells of the slot still to be opened. -/
def slotShut (K : GSem nD τ sig → ℕ) (c : Dev nD) (k : Fin 4) : sProp 𝕄 :=
  iprop((cellInv ER (talk X) (K (sendCell c k)) (sendCell c k) ∗ cellInv ER (talk X) (K (recvCell c k)) (recvCell c k)
      ∗ cellInv ER (talk X) (K (recvCell (across c) k)) (recvCell (across c) k))
    ∗ (openTok ER (sendCell c k) ∗ openTok ER (recvCell c k))
    ∗ dutyTok ER (sendCell c k) 0 () ∗ dutyTok ER (recvCell (across c) k) 0 () ∗ cred (tallyAt (recvCell c k) () N))

theorem slot_open (K : GSem nD τ sig → ℕ) (c : Dev nD) (k : Fin 4) :
    iprop(slotShut X K c k ∗ (semVal (sendCell c k) 0 ∗ semVal (recvCell c k) 0)) ⊢ (|={Set.univ}=> slotGhost X K c k : sProp 𝕄) := by
  unfold slotShut slotGhost
  iintro ⟨⟨⟨#HIs, #HIr, #HIp⟩, ⟨Hos, Hor⟩, Hts, Htr, Hc⟩, Hs, Hr⟩
  imod (Rounds.cell_open ER (talk X) (g := sendCell c k) (Set.mem_univ (K (sendCell c k)))) $$ [Hos Hs] with ⟨Has, #Hrs⟩
  · isplitr; · iexact HIs
    isplitl [Hos] <;> iassumption
  imod (Rounds.cell_open ER (talk X) (g := recvCell c k) (Set.mem_univ (K (recvCell c k)))) $$ [Hor Hr] with ⟨Har, #Hrr⟩
  · isplitr; · iexact HIr
    isplitl [Hor] <;> iassumption
  imodintro
  isplitr; · iexact HIs
  isplitr; · iexact HIr
  isplitr; · iexact HIp
  isplitl [Has]; · iexact Has
  isplitl [Har]; · iexact Har
  isplitr; · iexact Hrs
  isplitr; · iexact Hrr
  isplitl [Hts]; · iexact Hts
  isplitl [Htr]; · iexact Htr
  iexact Hc

theorem slots_open (K : GSem nD τ sig → ℕ) (c : Dev nD) :
    iprop(bigSep Finset.univ (slotShut X K c) ∗ zeros c) ⊢ (|={Set.univ}=> bigSep Finset.univ (slotGhost X K c) : sProp 𝕄) := by
  unfold zeros
  rw [← bigSep_sep']
  exact (bigSep_mono fun k _ => slot_open X K c k).trans (bigSep_fupd _ _)

/-- What a device carries of the protocol up to the region. -/
def shut (c : Dev nD) : sProp 𝕄 := iprop(∃ K, barGhost (X₀ m) K c ∗ bigSep Finset.univ (slotShut (X₀ m) K c))
/-- What enters the region's invariant of it. -/
def entered (c : Dev nD) : sProp 𝕄 := iprop((∃ K, opened m K c) ∗ levAts L lv)
/-- What it leaves: the barrier's counter. -/
def left (c : Dev nD) : sProp 𝕄 := semVal (barCell c) 0

theorem enter (c : Dev nD) : iprop(shut m c ∗ Pipeline.ownSems0 osem c ∗ levAts L lv) ⊢ (|={Set.univ}=> entered m c : sProp 𝕄) := by
  rw [own_eq]
  unfold shut entered opened
  iintro ⟨⟨%K, HB, HS⟩, Hz, Hlev⟩
  imod (slots_open (X₀ m) K c) $$ [HS Hz] with HS
  · isplitl [HS] <;> iassumption
  imodintro
  isplitr [Hlev]
  · iexists K
    isplitl [HB] <;> iassumption
  iexact Hlev

theorem held_none (c : Dev nD) (W : Valuation τ sig (Elt F)) : (StableHlo.held (c.tc : Thread nD τ) ∅ W : sProp 𝕄) = BI.emp := by
  unfold StableHlo.held
  exact BI.bigSep_empty

theorem phi_start (c : Dev nD) : (pdats m 0 c).Φ 0 = Φin m c := by
  show (if (0 : Fin (cfg0.N + 1)).val = 0 then Φin m c else Φout c) = _; exact if_pos rfl
theorem phi_end (c : Dev nD) : (pdats m 0 c).Φ (Fin.last _) = Φout c := by
  show (if (Fin.last cfg0.N).val = 0 then Φin m c else Φout c) = _
  rw [Fin.val_last, if_neg (by rw [show cfg0.N = 1 from N_0]; decide)]

theorem goes_in (c : Dev nD) : iprop(Pipeline.scopedRest (Pipeline.pin (pcfgs (F := F)) adm 0).spec c ∗ (∃ r, prngReg c r)
      ∗ StableHlo.held (c.tc : Thread nD τ) ∅ (V₁ m c) ∗ entered m c) ⊢ (pdats m 0 c).Φ 0 := by
  rw [phi_start]
  unfold Φin spare entered
  iintro ⟨Hs, Hp, -, HK, Hlev⟩
  isplitl [HK]; · iexact HK
  isplitl [Hlev]; · iexact Hlev
  isplitl [Hs]; · iexact Hs
  iexact Hp
theorem comes_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ left c) := by
  rw [phi_end, own_eq, held_none]
  unfold Φout spare left
  iintro ⟨Hb, Hz, Hs, Hp⟩
  isplitl [Hs]; · iexact Hs
  isplitl [Hp]; · iexact Hp
  isplitr; · iempintro
  isplitl [Hz] <;> iassumption

/-! ## The region's record -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_above (c : Dev nD) (t : Fin ((Pipeline.pin (pcfgs (F := F)) adm 0).N + 1)) (g : GSem nD τ sig) (i : Unit)
    (h : 0 < (pdats m 0 c).owed t g i) : i ∈ L g ∧ 0 < lv g i := by
  have e : (pdats m 0 c).owed t = if t.val = 0 then O₀ c else 0 := rfl
  rw [e] at h
  split at h
  · rcases O₀_pos c h with rfl | ⟨k, rfl⟩
    · exact ⟨by rw [L_tc]; exact Finset.mem_singleton_self _, Nat.one_pos⟩
    · exact ⟨by rw [L_tc]; exact Finset.mem_singleton_self _, by show 0 < level (.dma (recvS k)); rw [level_recv]; decide⟩
  · exact absurd h (Nat.lt_irrefl 0)

theorem level_stage : ∀ (w : Fin 3) (s : Fin (spec0 w).nbuf), level (.dma ((spec0 w).sem s)) = 0 := by decide

theorem cut : Pipeline.LevelCutOwed (pcfgs (F := F)) adm (pdats m) () L lv 0 (fun _ => 0) where
  hι c w s := by rw [L_tc]; exact Finset.mem_singleton_self _
  hιb c w s := Nat.le_of_eq (level_stage w s)
  hD := owed_above m

theorem share_full (c : Dev nD) (w : Fin 3) : (dat0 m c).share w = fullShare := by
  unfold Dat.share
  split <;> rfl

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) kit rfl (fun c => (body0 m c).loose)
    (fun _ => 0) O₀ (fun c => (owed_start m c).trans (zero_add _).symm) (owed_end m) (fun _ => rfl) (share_full m)
    (V₁ m) (V₂ m) (fun c b hb => Pipeline.afterRegion_off (dat0 m c) (V₁ m c) bufs b (by rwa [Finset.sdiff_empty] at hb))
    (shut m) left (entered m) left (enter m) (goes_in m) (comes_out m)
    (fun c => by iintro H; imodintro; iexact H)
    (fun _ => 0) (cut m) (fun _ => iprop(emp))
    (fun _ _ => rfl) (fun c w => (V₂_arr m c w).symm)

/-- What a core carries beside its buffers up to the region. -/
def carried (c : Dev nD) : sProp 𝕄 := iprop((shut m c ∗ ∃ r, prngReg c r) ∗ ∃ W, owes (c : Thread nD τ) (O₀ c) W)

theorem region_pre (c : Dev nD) : iprop(StableHlo.held (c : Thread nD τ) bufs (V₁ m c) ∗ carried m c) ⊢ (region m).pre c := by
  show _ ⊢ iprop(StableHlo.held (c.tc : Thread nD τ) arrs (V₁ m c) ∗ (∃ r, prngReg c r)
    ∗ (StableHlo.held (c.tc : Thread nD τ) others (V₁ m c) ∗ emp) ∗ shut m c ∗ ∃ Wd, owes (c : Thread nD τ) (0 + O₀ c) Wd)
  rw [StableHlo.held_sub_split (c.tc : Thread nD τ) arrs_sub (V₁ m c), zero_add]
  unfold carried
  iintro ⟨⟨Ha, Hr⟩, ⟨HK, Hp⟩, HO⟩
  isplitl [Ha]; · iexact Ha
  isplitl [Hp]; · iexact Hp
  isplitl [Hr]
  · isplitl [Hr]; · iexact Hr
    iempintro
  isplitl [HK] <;> iassumption

theorem region_post (c : Dev nD) : (region m).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) others (V₂ m c) ∗ emp) ∗ left c ∗ ∃ Wd, owes (c : Thread nD τ) (0 : CellTallies nD τ sig Unit) Wd) ⊢ _
  rw [StableHlo.held_sub_split (c.tc : Thread nD τ) arrs_sub (V₂ m c)]
  unfold left
  iintro ⟨Ha, -, ⟨Hr, -⟩, Hb, HO⟩
  isplitr [HO]
  · isplitl [Ha Hr]
    · isplitl [Ha] <;> iassumption
    iexact Hb
  iexact HO

end Cert.KernelIdeal.Pair

end
-- ==== Proof.Run.lean ====
/- The launch: the protocol's cells funded, their tokens dealt to the devices that use them, and @main run on all sixteen. -/
module

public import proofs.«01_k».proof.Proof.Region

@[expose] public section

noncomputable section

namespace Cert.KernelIdeal.Pair

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## @main in segments -/

def host : Pipeline.HostSeg (Ix := Unit) (Name := ℕ) (U := UU) (pcfgs (F := F)) defs₀ 𝒱₀ L lv :=
  Pipeline.HostSeg.ofOps _ _ _ _ _ bufs hostOps0
    (fun op h => Pipeline.sub_ucRefs op (List.forall_iff_forall_mem.mp hostOps0_sub op h))
    (List.forall_iff_forall_mem.mp hostOps0_fresh) (V₀ m) (carried m)

def segs : List (Pipeline.Seg (pcfgs (F := F)) adm (pdats m) () defs₀ 𝒱₀ L lv) := [.host (host m), .region (region m)]

theorem main_eq (c : Dev nD) : main (F := F) c = Pipeline.Seg.run (segs m) :=
  main_segs adm (pdats m) () 𝒱₀ L lv (host m) (region m) rfl c

/-! ## The cells and their tokens -/

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]
theorem only_bar : ∀ sm : SemLoc sig, sm.isScoped .tc = false → sm = .reg barS := by decide

theorem osem_inj : Function.Injective osem := by decide
theorem osem_ne_bar : ∀ ki, osem ki ≠ .reg barS := by decide

def barEmb : Dev nD ↪ GSem nD τ sig := ⟨fun c => barCell c, fun _ _ h => congrArg (fun g : GSem nD τ sig => g.1.1) h⟩
def slotEmb : Dev nD × (Fin 4 × Fin 2) ↪ GSem nD τ sig :=
  ⟨fun p => ((p.1 : Thread nD τ), osem p.2), fun _ _ h =>
    Prod.ext (congrArg (fun g : GSem nD τ sig => g.1.1) h) (osem_inj (congrArg Prod.snd h))⟩
def tokEmb : GSem nD τ sig ↪ GSem nD τ sig × ℕ × Unit := ⟨fun g => (g, 0, ()), fun _ _ h => congrArg Prod.fst h⟩

abbrev barCells : Finset (GSem nD τ sig) := Finset.univ.map barEmb
abbrev slotCells : Finset (GSem nD τ sig) := Finset.univ.map slotEmb
abbrev cells : Finset (GSem nD τ sig) := barCells ∪ slotCells
abbrev tokens : Finset (GSem nD τ sig × ℕ × Unit) := cells.map tokEmb

theorem cells_disjoint : Disjoint barCells slotCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

theorem bar_mem (c : Dev nD) : barCell c ∈ cells := Finset.mem_union_left _ (Finset.mem_map_of_mem barEmb (Finset.mem_univ c))
theorem send_mem (c : Dev nD) (k : Fin 4) : sendCell c k ∈ cells :=
  Finset.mem_union_right _ (Finset.mem_map_of_mem slotEmb (Finset.mem_univ (c, k, (0 : Fin 2))))
theorem recv_mem (c : Dev nD) (k : Fin 4) : recvCell c k ∈ cells :=
  Finset.mem_union_right _ (Finset.mem_map_of_mem slotEmb (Finset.mem_univ (c, k, (1 : Fin 2))))

theorem over_bar (P : GSem nD τ sig → sProp 𝕄) : bigSep barCells P = bigSep Finset.univ fun c : Dev nD => P (barCell c) :=
  bigSep_map (s := Finset.univ) barEmb (Φ := P)
theorem over_slots (P : GSem nD τ sig → sProp 𝕄) : bigSep slotCells P
    = bigSep Finset.univ fun c : Dev nD => bigSep Finset.univ fun k : Fin 4 => iprop(P (sendCell c k) ∗ P (recvCell c k)) := by
  rw [bigSep_map, bigSep_univ_prod]
  refine bigSep_congr fun c _ => ?_
  rw [bigSep_univ_prod]
  exact bigSep_congr fun k _ => BI.bigSep_fin_two (fun i : Fin 2 => P ((c : Thread nD τ), osem (k, i)))

theorem over_cells (P : GSem nD τ sig → sProp 𝕄) : bigSep cells P = iprop(bigSep barCells P ∗ bigSep slotCells P) :=
  BI.bigSep_union cells_disjoint

/-- The launch element: the pipeline library's at the staging cells, the protocol's at its own. -/
def u₀ : UU :=
  (initOf (Pipeline.cells (Pipeline.pin (pcfgs (F := F)) adm) cellOf_inj) (Pipeline.launchToks (Pipeline.pin (pcfgs (F := F)) adm) cellOf_inj),
    launchOf barCells slotCells tokens)

/-- All of a resource on device 0, nothing on the others. -/
def parked (R : sProp 𝕄) (c : Dev nD) : sProp 𝕄 := if c = 0 then R else iprop(emp)
theorem bigSep_parked (R : sProp 𝕄) : bigSep Finset.univ (parked R) = R := by
  rw [bigSep_univ_at _ 0, bigSep_congr (s := Finset.univ.erase 0) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp
def G : Dev nD → sProp 𝕄 := parked (BI.own (ER (launchOf barCells slotCells tokens)))

/-! ## What every device may consult, and what is one device's -/

def records (κ : GSem nD τ sig → ℕ) : sProp 𝕄 :=
  iprop((bigSep cells fun g => cellInv ER (talk (X₀ m)) (κ g) g) ∗ bigSep barCells fun g => reached ER g 0)
instance records_persistent (κ : GSem nD τ sig → ℕ) : BI.Persistent (records m κ) := by unfold records; infer_instance

theorem inv_at (κ : GSem nD τ sig → ℕ) {g : GSem nD τ sig} (hg : g ∈ cells) :
    (bigSep cells fun g => (cellInv ER (talk (X₀ m)) (κ g) g : sProp 𝕄)) ⊢ cellInv ER (talk (X₀ m)) (κ g) g := bigSep_elim hg
theorem reached_at (c : Dev nD) : (bigSep barCells fun g => (reached ER g 0 : sProp 𝕄)) ⊢ reached ER (barCell c) 0 :=
  bigSep_elim (Finset.mem_map_of_mem barEmb (Finset.mem_univ c))

/-- A family over the four slots, device by device. -/
abbrev each (P : Dev nD → Fin 4 → sProp 𝕄) (c : Dev nD) : sProp 𝕄 := bigSep Finset.univ fun k : Fin 4 => P c k

/-- What device `c` may collect: its barrier's unit and its four arrivals. -/
def credit (c : Dev nD) : sProp 𝕄 := iprop(cred (tallyAt (barCell c) () 1) ∗ each (fun c k => cred (tallyAt (recvCell c k) () N)) c)

/-- What stays with device `c`: its barrier position, its rights to open, the tokens of the duties it pays, its credit. -/
def linear (c : Dev nD) : sProp 𝕄 :=
  iprop((atPos ER (barCell c) 0 ∅ 0 ∗ each (fun c k => iprop(openTok ER (sendCell c k) ∗ openTok ER (recvCell c k))) c
      ∗ dutyTok ER (barCell (across c)) 0 () ∗ each (fun c k => dutyTok ER (sendCell c k) 0 ()) c
      ∗ each (fun c k => dutyTok ER (recvCell c k) 0 ()) (across c))
    ∗ credit c)

theorem slot_shut_intro (κ : GSem nD τ sig → ℕ) (c : Dev nD) (k : Fin 4) :
    iprop(records m κ ∗ ((openTok ER (sendCell c k) ∗ openTok ER (recvCell c k)) ∗ dutyTok ER (sendCell c k) 0 ()
        ∗ dutyTok ER (recvCell (across c) k) 0 () ∗ cred (tallyAt (recvCell c k) () N)))
      ⊢ slotShut (X₀ m) κ c k := by
  unfold records slotShut
  iintro ⟨⟨#HI, -⟩, Hrest⟩
  isplitr
  · isplitr; · iapply (inv_at m κ (send_mem c k)); iexact HI
    isplitr; · iapply (inv_at m κ (recv_mem c k)); iexact HI
    iapply (inv_at m κ (recv_mem (across c) k)); iexact HI
  iexact Hrest

theorem slotwise (P Q : Fin 4 → sProp 𝕄) : iprop(bigSep Finset.univ P ∗ bigSep Finset.univ Q) ⊢ bigSep Finset.univ fun k => iprop(P k ∗ Q k) :=
  Entails.of_eq (bigSep_sep' _ _ _).symm

theorem shut_intro (κ : GSem nD τ sig → ℕ) (c : Dev nD) : iprop(records m κ ∗ linear c) ⊢ shut m c := by
  unfold linear shut barGhost credit each
  iintro ⟨#HR, ⟨HaB, Ho, HtB, Hts, Htr⟩, HcB, Hcr⟩
  iexists κ
  isplitl [HaB HtB HcB]
  · unfold records
    icases HR with ⟨#HI, #Hre⟩
    isplitr; · iapply (inv_at m κ (bar_mem c)); iexact HI
    isplitr; · iapply (inv_at m κ (bar_mem (across c))); iexact HI
    isplitl [HaB]; · iexact HaB
    isplitr; · iapply (reached_at (F := F) (across c)); iexact Hre
    isplitl [HtB]; · iexact HtB
    iexact HcB
  iapply (bigSep_with_persistent (R := records m κ) fun k _ => slot_shut_intro m κ c k)
  isplitr; · iexact HR
  iapply slotwise; isplitl [Ho]; · iexact Ho
  iapply slotwise; isplitl [Hts]; · iexact Hts
  iapply slotwise; isplitl [Htr]; · iexact Htr
  iexact Hcr

theorem over_tokens : bigSep tokens (fun x => (dutyTok ER x.1 x.2.1 x.2.2 : sProp 𝕄)) = bigSep cells fun g => dutyTok ER g 0 () :=
  bigSep_map (s := cells) tokEmb (Φ := fun x => (dutyTok ER x.1 x.2.1 x.2.2 : sProp 𝕄))

/-- The tokens as funded, cell by cell, handed to the devices that pay: the barrier's and the arrivals' go across. -/
theorem tokens_across : bigSep tokens (fun x => (dutyTok ER x.1 x.2.1 x.2.2 : sProp 𝕄))
    ⊢ bigSep Finset.univ fun c : Dev nD => iprop(dutyTok ER (barCell (across c)) 0 () ∗ each (fun c k => dutyTok ER (sendCell c k) 0 ()) c
        ∗ each (fun c k => dutyTok ER (recvCell c k) 0 ()) (across c)) := by
  rw [over_tokens, over_cells, over_bar, over_slots]
  simp only [bigSep_sep']
  rw [bigSep_univ_equiv acrossEquiv (fun c : Dev nD => (dutyTok ER (barCell c) 0 () : sProp 𝕄)),
    bigSep_univ_equiv acrossEquiv (fun c : Dev nD => (bigSep Finset.univ fun k : Fin 4 => dutyTok ER (recvCell c k) 0 () : sProp 𝕄))]
  exact BI.Entails.refl _

/-! ## The launch credit -/

theorem cell_eq {c d : Dev nD} {s s' : SemLoc sig} : (((c : Thread nD τ), s) : GSem nD τ sig) = ((d : Thread nD τ), s') ↔ c = d ∧ s = s' := by
  constructor
  · intro h; exact ⟨congrArg (fun g : GSem nD τ sig => g.1.1) h, congrArg Prod.snd h⟩
  · rintro ⟨rfl, rfl⟩; rfl

theorem recvS_inj {k k' : Fin 4} : (SemLoc.dma (recvS k) : SemLoc sig) = .dma (recvS k') ↔ k = k' := by revert k k'; decide

theorem recv_ne_bar (k : Fin 4) : (SemLoc.dma (recvS k) : SemLoc sig) ≠ .reg barS := by revert k; decide

theorem across_iff {c d : Dev nD} : c = across d ↔ d = across c :=
  ⟨fun h => by rw [h, across_across], fun h => by rw [h, across_across]⟩

theorem tally_other {g g' : GSem nD τ sig} {n : ℕ} (h : g' ≠ g) : tallyAt g () n g' () = 0 := by
  rw [tallyAt_apply, if_neg (fun h' => h h'.1)]
theorem tally_self (g : GSem nD τ sig) (n : ℕ) : tallyAt g () n g () = n := by
  rw [tallyAt_apply, if_pos ⟨rfl, rfl⟩]

theorem owe_bar (d c : Dev nD) : ∀ n, owe d n (barCell c) () = 0
  | 0 => rfl
  | n + 1 => by
    show owe d n (barCell c) () + tallyAt (recvCell (across d) _) () N (barCell c) () = 0
    rw [owe_bar d c n, tally_other (g := recvCell (across d) _) fun h => recv_ne_bar _ (cell_eq.mp h).2.symm]

theorem owed_bar (d c : Dev nD) : O₀ d (barCell c) () = if d = across c then 1 else 0 := by
  show owe d 4 (barCell c) () + tallyAt (barCell (across d)) () 1 (barCell c) () = _
  rw [owe_bar, Nat.zero_add]
  split
  · next h => rw [h, across_across, tally_self]
  · next h => rw [tally_other fun e => h (across_iff.mp (cell_eq.mp e).1)]

/-- Among the four, the arrival at slot `k` is owed once. -/
theorem owe_recv (d c : Dev nD) (k : Fin 4) : ∀ n, n ≤ 4 → owe d n (recvCell c k) () = if d = across c ∧ 3 - k.val < n then N else 0
  | 0, _ => by rw [if_neg (fun h => absurd h.2 (Nat.not_lt_zero _))]; rfl
  | n + 1, hn => by
    show owe d n (recvCell c k) () + tallyAt (recvCell (across d) (Fin.ofNat 4 (3 - n))) () N (recvCell c k) () = _
    rw [owe_recv d c k n (by omega)]
    have hk := k.isLt
    by_cases hd : d = across c
    · by_cases he : 3 - k.val = n
      · rw [if_neg (fun h => absurd h.2 (by omega)), if_pos ⟨hd, by omega⟩, Nat.zero_add,
          show recvCell (across d) (Fin.ofNat 4 (3 - n)) = recvCell c k from by
            rw [hd, across_across, show Fin.ofNat 4 (3 - n) = k from Fin.ext (by show (3 - n) % 4 = k.val; omega)], tally_self]
      · rw [tally_other fun e => he (by
            have := congrArg Fin.val (recvS_inj.mp (cell_eq.mp e).2)
            have h' : k.val = (3 - n) % 4 := this
            omega), Nat.add_zero]
        exact if_congr (and_congr_right fun _ => by omega) rfl rfl
    · rw [tally_other fun e => hd (across_iff.mp (cell_eq.mp e).1), if_neg fun h => hd h.1, if_neg fun h => hd h.1]

theorem owed_recv (d c : Dev nD) (k : Fin 4) : O₀ d (recvCell c k) () = if d = across c then N else 0 := by
  show owe d 4 (recvCell c k) () + tallyAt (barCell (across d)) () 1 (recvCell c k) () = _
  rw [tally_other (g := barCell (across d)) fun h => recv_ne_bar k (cell_eq.mp h).2, Nat.add_zero, owe_recv d c k 4 le_rfl]
  exact if_congr ⟨fun h => h.1, fun h => ⟨h, by omega⟩⟩ rfl rfl

theorem launch_at (c : Dev nD) (s : SemLoc sig) (n : ℕ) (h : ∀ d, O₀ d ((c : Thread nD τ), s) () = if d = across c then n else 0) :
    tallyOn ((c : Thread nD τ), s) (launchCredit (Pipeline.owing O₀) 0 ((c : Thread nD τ), s))
      = (tallyAt ((c : Thread nD τ), s) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (across c) fun _ => n,
    if_pos (Finset.mem_univ _)]

def recvEmb : Fin 4 ↪ SemLoc sig := ⟨fun k => .dma (recvS k), fun _ _ h => recvS_inj.mp h⟩
theorem recv_rest : Finset.univ.map recvEmb ⊆ Finset.univ.erase (SemLoc.reg barS : SemLoc sig) := by decide

theorem creds (c : Dev nD) : (Pipeline.launchCred O₀ c : sProp 𝕄) ⊢ credit c := by
  unfold Pipeline.launchCred credit
  rw [bigSep_univ_at _ (SemLoc.reg barS), launch_at c _ 1 fun d => owed_bar d c]
  refine sep_mono_right ((bigSep_subset recv_rest).trans ?_)
  rw [bigSep_map]
  exact bigSep_mono fun k _ => Entails.of_eq (congrArg cred (launch_at c _ N fun d => owed_recv d c k))

/-! ## The start and the end -/

abbrev T₀ (c : Dev nD) : sProp 𝕄 := iprop(StableHlo.held (c : Thread nD τ) bufs (V₀ m c) ∗ carried m c)
abbrev Tₙ (c : Dev nD) : sProp 𝕄 := iprop(StableHlo.held (c : Thread nD τ) bufs (V₂ m c) ∗ semVal (barCell c) 0)

/-- What of a core's holdings at launch is not the protocol's. -/
def plain (c : Dev nD) : sProp 𝕄 :=
  iprop(StableHlo.held (c : Thread nD τ) bufs (V₀ m c) ∗ owes (c : Thread nD τ) (O₀ c) ∅ ∗ ∃ r, prngReg c r)

theorem T₀_intro (κ : GSem nD τ sig → ℕ) (c : Dev nD) : iprop(records m κ ∗ (linear c ∗ plain m c)) ⊢ T₀ m c := by
  unfold plain T₀ carried
  iintro ⟨#HR, Hl, Hh, HO, Hp⟩
  isplitl [Hh]; · iexact Hh
  isplitr [HO]
  · isplitl [Hl]
    · iapply (shut_intro m κ c)
      isplitr; · iexact HR
      iexact Hl
    iexact Hp
  iexists ∅; iexact HO

/-- A core's launch holdings sorted: its own, its launch credit, its barrier counter, what is parked with it. -/
theorem sorted (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(plain m c ∗ credit c ∗ semVal (barCell c) 0 ∗ G c) : sProp 𝕄) := by
  rw [show unscopedBufs c (fun b => m ((c : Thread nD τ).loc b)) = StableHlo.held (c : Thread nD τ) bufs (V₀ m c) from
    Pipeline.unscopedBufs_held c (V₀ m c), unscopedSems_eq]
  unfold plain
  iintro ⟨Hh, Hs, HO, Hcr, Hp, HG⟩
  isplitl [Hh HO Hp]
  · isplitl [Hh]; · iexact Hh
    isplitl [HO]; · iexact HO
    iexists (ρ c); iexact Hp
  isplitl [Hcr]; · iapply (creds (F := F) c) $$ Hcr
  isplitl [Hs] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  refine (sep_mono_left (bigSep_mono fun c _ => sorted m ρ c)).trans ?_
  rw [bigSep_sep', bigSep_sep', bigSep_sep', show bigSep Finset.univ (G (F := F)) = _ from bigSep_parked _,
    ← over_bar (fun g => semVal g 0)]
  iintro ⟨⟨HB, Hcr, Hv, Hu⟩, -⟩
  imod (Rounds.fund_launch ER (talk (X₀ m)) cells_disjoint (fun g _ h => h) tokens) $$ [Hv Hu] with ⟨%κ, -, #Hinv, #Hr, Hat, Hopen, Htok⟩
  · isplitl [Hv] <;> iassumption
  imodintro
  iapply (bigSep_with_persistent (R := records m κ) (Φ := fun c => iprop(linear c ∗ plain m c)) fun c _ => T₀_intro m κ c)
  isplitr
  · unfold records
    isplitr; · iexact Hinv
    iexact Hr
  rw [bigSep_sep']
  isplitr [HB]
  · unfold linear
    rw [bigSep_sep', bigSep_sep', bigSep_sep']
    isplitr [Hcr]
    · isplitl [Hat]; · iapply (Entails.of_eq (over_bar (F := F) (fun g => atPos ER g 0 ∅ 0))) $$ Hat
      isplitl [Hopen]; · iapply (Entails.of_eq (over_slots (F := F) (openTok ER))) $$ Hopen
      iapply (tokens_across (F := F)) $$ Htok
    iexact Hcr
  iexact HB

theorem bufs_eq (c : Dev nD) (W : Valuation τ sig (Elt F)) : (StableHlo.held (c : Thread nD τ) bufs W : sProp 𝕄)
    = iprop((((c : Thread nD τ).loc main_arg0) ↦{fullShare} W (Proc.devRef .tc main_arg0))
      ∗ (((c : Thread nD τ).loc main_arg1) ↦{fullShare} W (Proc.devRef .tc main_arg1))
      ∗ (((c : Thread nD τ).loc main_v1) ↦{fullShare} W (Proc.devRef .tc main_v1))
      ∗ (((c : Thread nD τ).loc main_v2) ↦{fullShare} W (Proc.devRef .tc main_v2))) := by
  unfold StableHlo.held
  rw [bigSep_eq_bigSepL_of_eq [Proc.devRef .tc main_arg0, Proc.devRef .tc main_arg1, Proc.devRef .tc main_v1, Proc.devRef .tc main_v2]
    (by decide) (by decide)]
  rfl

theorem ends_arg0 (c : Dev nD) : V₂ m c (Proc.devRef .tc main_arg0) = m ((c : Thread nD τ).loc main_arg0) :=
  ((V₂_arr m c 0).trans ((dat0 m c).arrAt_in 0 rfl _)).trans (V_main_arg0 m c)
theorem ends_arg1 (c : Dev nD) : V₂ m c (Proc.devRef .tc main_arg1) = m ((c : Thread nD τ).loc main_arg1) :=
  (Pipeline.afterRegion_of_not_arr (dat0 m c) (V₁ m c) (b := main_arg1) (by decide)).trans (V_main_arg1 m c)
theorem ends_v2 (c : Dev nD) : V₂ m c (Proc.devRef .tc main_v2) = result (X₀ m) c (γ₀ m c) := by
  refine (V₂_arr m c 2).trans ((dat0 m c).arrAt_eq_of_after_last 2 t0_0 (by decide +kernel) _ fun j => ?_)
  blk_simp
  rfl

set_option backward.isDefEq.respectTransparency.types false in
/-- From any memory with zero counters every fair execution of @main on the sixteen devices ends, with both arguments as they
    were, the result what `result` says and every counter at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = result (X₀ m) c (γ₀ m c)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_parked]; iexact HX)
    (T₀ := T₀ m) (Tₙ := Tₙ m)
    (hch := ⟨fun c => .rfl, fun c => region_pre m c, fun c => region_post m c⟩)
    (hinit := init m ρ)
    (QY := fun c s => (s.mem ((c : Thread nD τ).loc main_arg0) = V₂ m c (Proc.devRef .tc main_arg0)
        ∧ s.mem ((c : Thread nD τ).loc main_arg1) = V₂ m c (Proc.devRef .tc main_arg1)
        ∧ s.mem ((c : Thread nD τ).loc main_v2) = V₂ m c (Proc.devRef .tc main_v2)) ∧ s.sem (barCell c) = 0)
    (hfin := fun c s' => by
      dsimp only [Tₙ]; rw [bufs_eq]
      iintro ⟨⟨⟨Hx, Hg, -, Ho⟩, Hb⟩, HSI⟩
      icombine HSI Hx gives %hx
      icombine HSI Hg gives %hg
      icombine HSI Ho gives %ho
      icombine HSI Hb gives %hb
      imodintro
      isplitr
      · ipureintro
        exact ⟨⟨Buf.eq_of_forall_mem_univ hx, Buf.eq_of_forall_mem_univ hg, Buf.eq_of_forall_mem_univ ho⟩, by simpa using hb⟩
      iexact HSI)
    (hQ := fun s h hs => ⟨fun c => ⟨(h c).1.1.trans (ends_arg0 m c), (h c).1.2.1.trans (ends_arg1 m c), (h c).1.2.2.trans (ends_v2 m c)⟩,
      sem_eq_zero hs fun c sm hsm => by
        obtain rfl := only_bar sm hsm
        exact (h c).2⟩)

end Cert.KernelIdeal.Pair

end
-- ==== Proof.Frames.lean ====
/- The frames: the kernel, its reading over the ideal values and the reference all run, leave their arguments and end with every
   counter at zero. -/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

noncomputable section

namespace Cert.Frames

open Idealize.ShloMosaic Idealize.ShloMosaic.TcCoe Idealize.SL.Sem
open Cert.KernelIdeal.Pair (run_main)

theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (run_main (F := Ideal) m ρ)

section
attribute [local instance] Cert.Kernel.Gen.facts Cert.KernelIdeal.Gen.facts

/-- The two programs' tables of bodies are one, label by label; -/
theorem bodies_eq {F : FTy → Type} [FloatOps F] : Cert.Kernel.defs₀ (F := F) = Cert.KernelIdeal.defs₀ := by
  unfold Cert.Kernel.defs₀ Cert.KernelIdeal.defs₀
  refine congrArg Defs.onTc (funext fun l => funext fun a => ?_)
  match l, a with
  | ⟨0, _⟩, (_, _) => rfl
/-- so the programs' own are. -/
theorem defs_eq {F : FTy → Type} [FloatOps F] : Cert.Kernel.defs (F := F) = Cert.KernelIdeal.defs :=
  congrArg (Pipeline.defs Cert.KernelIdeal.pcfgs) bodies_eq

end

/-- The kernel's own text is the one run above, read over the words. -/
theorem frame_kernel : Cert.quiescent_Kernel (hKernel := Cert.Kernel.Gen.facts) := fun m ρ _ => by
  rw [defs_eq]
  exact (θ_run Cert.KernelIdeal.defs _ _).mono (fun _ h => ⟨fun c => ⟨(h.1 c).1, (h.1 c).2.1⟩, h.2⟩) (run_main (F := Bits) m ρ)

/-- The reference declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Frames

end
-- ==== Proof.Value.lean ====
/- The value: over the ideal values, what a device leaves is its block of the reference's result. Both sides are read at an
   index; row by row they are one function of the sum of the two blocks' rows. -/
module

public import proofs.«01_k».proof.Defs
public import proofs.«01_k».proof.Proof.Run
public import proofs.«01_k».proof.Proof.Gen.ReferenceIdeal.Run
public import Idealize.ShloMosaic.Lib.Pointwise

@[expose] public section

noncomputable section

/-! ## One row, normed and scaled -/

namespace Cert.Row

open Idealize.ShloMosaic

/-- Element `l` of the row `y` over the root of its mean square, times the scale `g`. -/
def normed (y g : Fin 512 → EReal) (l : Fin 512) : EReal :=
  Ideal.div (y l) (Ideal.sqrt (Ideal.div (∑ k, y k * y k) (Ideal.ofBits .f32 0x44000000#32) + Ideal.ofBits .f32 0x358637BD#32)) * g l

end Cert.Row

/-! ## The reference at an index -/

namespace Cert.ReferenceIdeal.Value

open Cert.ReferenceIdeal Cert.ReferenceIdeal.Gen Idealize.ShloMosaic Idealize.ShloMosaic.TcCoe
open Facts Cert.Row

/-- The two blocks added. -/
def total (P : FVec Ideal S2x1024x512 .bf16) : FVec Ideal S1024x512 .f32 :=
  Host.reduceAdd (extf .f32 P bitsLt_bf16_f32) (constant S_ .f32 0x00000000#32) reducesTo_S2x1024x512_S1024x512_d0 h_S_

/-- What the reference divides a row by. -/
def spread (y : FVec Ideal S1024x512 .f32) : FVec Ideal S1024x1 .f32 :=
  Host.sqrt (addf
    (Host.divf (broadcastInDim S1024x1 ![0] bcast_S1024_S1024x1_0
        (Host.reduceAdd (mulf y y) (constant S_ .f32 0x00000000#32) reducesTo_S1024x512_S1024_d1 h_S_))
      (broadcastInDim S1024x1 ![] bcast_S_S1024x1 (constant S_ .f32 0x44000000#32)))
    (broadcastInDim S1024x1 ![] bcast_S_S1024x1 (constant S_ .f32 0x358637BD#32)))

/-- The reference's result. -/
def whole (P : FVec Ideal S2x1024x512 .bf16) (γ : FVec Ideal S512 .bf16) : FVec Ideal S1024x512 .f32 :=
  mulf (Host.divf (total P) (broadcastInDim S1024x512 ![0, 1] bcast_S1024x1_S1024x512_0_1 (spread (total P))))
    (broadcastInDim S1024x512 ![0, 1] bcast_S1x512_S1024x512_0_1
      (broadcastInDim S1x512 ![1] bcast_S512_S1x512_1 (extf .f32 γ bitsLt_bf16_f32)))

theorem total_apply (P : FVec Ideal S2x1024x512 .bf16) (r : Fin 1024) (l : Fin 512) :
    total P (ix2 r l) = P (ix3 0 r l) + P (ix3 1 r l) := by
  pointwise [total]
  exact Fin.sum_univ_two _

theorem spread_apply (y : FVec Ideal S1024x512 .f32) (r : Fin 1024) :
    spread y (ix2 r 0) = Ideal.sqrt (Ideal.div (∑ k, y (ix2 r k) * y (ix2 r k)) (Ideal.ofBits .f32 0x44000000#32) + Ideal.ofBits .f32 0x358637BD#32) := by
  pointwise [spread]

theorem whole_apply (P : FVec Ideal S2x1024x512 .bf16) (γ : FVec Ideal S512 .bf16) (r : Fin 1024) (l : Fin 512) :
    whole P γ (ix2 r l) = normed (fun k => P (ix3 0 r k) + P (ix3 1 r k)) (fun k => γ (ix1 k)) l := by
  unfold normed
  pointwise [whole]
  rw [spread_apply]
  simp only [total_apply]

end Cert.ReferenceIdeal.Value

/-! ## The kernel at an index -/

namespace Cert.KernelIdeal.Pair

open Idealize.ShloMosaic Idealize.ShloMosaic.TcCoe
open Cert.KernelIdeal.Gen Cert.Row

theorem off1_eq : ∀ (c : Dev nD) (k : Fin 4), k0_off1 c (BitVec.ofNat 32 (128 * k.val)) = ![0, (1 - c.val / 8) * 512 + 128 * k.val, 0] := by
  decide +kernel
theorem off2_eq : ∀ (c : Dev nD) (k : Fin 4), k0_off2 c (BitVec.ofNat 32 (128 * k.val)) = ![0, c.val / 8 * 512 + 128 * k.val, 0] := by
  decide +kernel

theorem pay1_apply (v : Vec Ideal S1x128x512 .bf16) (r : Fin 128) (l : Fin 512) : k0_pay1 v (ix3 0 r l) = v (ix3 0 r l) := by
  pointwise [k0_pay1]

theorem pay8_apply (y : Vec Ideal S1x128x512 .fp8e4m3) (x : Vec Ideal S1x128x512 .bf16) (γ : Vec Ideal S1x512 .bf16) (r : Fin 128) (l : Fin 512) :
    k0_pay8 y x γ (ix2 r l) = normed (fun k => x (ix3 0 r k) + y (ix3 0 r k)) (fun k => γ (ix2 0 k)) l := by
  unfold normed
  pointwise [k0_pay8]

/-- A band of 128 rows read from a block, at an index. -/
theorem band_apply (x : Vec Ideal S1x1024x512 .bf16) {off : Fin 3 → ℕ} {o : ℕ} (ho : off = ![0, o, 0])
    (inb : ∀ a, off a + S1x128x512.size a ≤ S1x1024x512.size a) (r : Fin 128) (l : Fin 512) (R : Fin 1024) (hR : R.val = o + r.val) :
    xM.view.readAt (Elt Ideal) (Rect.unit (s := S1x1024x512) off S1x128x512.size inb).toLoadRect x (ix3 0 r l) = x (ix3 0 R l) := by
  subst ho
  rw [View.readAt_apply, View.read_whole]
  refine congrArg x (funext fun a => Fin.ext ?_)
  match a with
  | 0 => rfl
  | 1 => exact (congrArg (o + ·) (Nat.one_mul r.val)).trans hR.symm
  | 2 => exact (Nat.zero_add _).trans (Nat.one_mul l.val)

theorem scale_apply (γ : Vec Ideal S1x512 .bf16) (l : Fin 512) :
    gM.view.readAt (Elt Ideal) (Rect.unit (s := S1x512) ![0, 0] S1x512.size Facts₀.inb_S1x512_S1x512_0_0).toLoadRect γ (ix2 0 l) = γ (ix2 0 l) := by
  rw [View.readAt_apply, View.read_whole]
  refine congrArg γ (funext fun a => Fin.ext ?_)
  match a with
  | 0 => rfl
  | 1 => exact (Nat.zero_add _).trans (Nat.one_mul l.val)

theorem across_half (c : Dev nD) : 1 - (across c).val / 8 = c.val / 8 := by revert c; decide

/-- Row `r` of device `c`'s result is made of row `R` of the two blocks, `R` counted over the whole result. -/
theorem result_apply (X : Blocks Ideal) (c : Dev nD) (γ : Vec Ideal S1x512 .bf16) (r l : Fin 512) (R : Fin 1024) (hR : R.val = c.val / 8 * 512 + r.val) :
    result X c γ (ix2 r l) = normed (fun k => X c (ix3 0 R k) + X (across c) (ix3 0 R k)) (fun k => γ (ix2 0 k)) l := by
  have hr : R.val = c.val / 8 * 512 + 128 * (r.val / 128) + r.val % 128 := by omega
  show made _ _ _ _ _ (ix2 ⟨r.val % 128, Nat.mod_lt _ (by decide)⟩ l) = _
  unfold made staged
  rw [pay8_apply]
  simp only [pay1_apply, scale_apply]
  congr 1
  · funext k
    congr 1
    · exact band_apply _ (off2_eq c _) _ _ _ R hr
    · exact band_apply _ (off1_eq (across c) _) _ _ _ R (by rw [across_half]; exact hr)
  · exact funext fun k => scale_apply γ k

end Cert.KernelIdeal.Pair

end
-- ==== Proof.Algebra.lean ====
/- The value claim: each device's result is its block of the reference's. -/
module

public import proofs.«01_k».proof.Proof.Value
public import Idealize.ShloMosaic.Lib.Layout

@[expose] public section

noncomputable section

namespace Cert.KernelIdeal.Pair

open Idealize.ShloMosaic Idealize.ShloMosaic.TcCoe Idealize.SL.Sem
open Cert.KernelIdeal.Gen Cert.Row
open Cert.ReferenceIdeal.Value (whole whole_apply)

/-- A device's half of an axis cut in two along x. -/
def half (c : Dev nD) : Fin 2 := ⟨c.val / 8, by have := c.isLt; have h : nD = 16 := rfl; omega⟩
theorem meshLin_x (c : Dev nD) : Layout.meshLin [2, 2, 4] c.val [0] = (half c).val := by revert c; decide

/-- The block of the partial sums a device starts with, at an index, -/
theorem start_apply (P : FVec Ideal Cert.ReferenceIdeal.S2x1024x512 .bf16) (c : Dev nD) (R : Fin 1024) (k : Fin 512) :
    Layout.blockN ⟨3, ![1, 1024, 512]⟩ ⟨3, ![2, 1024, 512]⟩ (Layout.meshBlock [2, 2, 4] ![[0], [], []] c) P (by decide) (ix3 0 R k)
      = P (ix3 (half c) R k) := by
  rw [Layout.blockN_apply]
  refine congrArg P (funext fun a => Fin.ext ?_)
  match a with
  | 0 => show Layout.meshLin [2, 2, 4] c.val [0] * 1 + 0 = _; rw [meshLin_x]; exact Nat.mul_one _
  | 1 => show 0 * 1024 + R.val = R.val; omega
  | 2 => show 0 * 512 + k.val = k.val; omega
/-- and the block of the result it is to leave. -/
theorem end_apply (v : FVec Ideal Cert.ReferenceIdeal.S1024x512 .f32) (c : Dev nD) (r l : Fin 512) (R : Fin 1024) (hR : R.val = c.val / 8 * 512 + r.val) :
    Layout.blockN ⟨2, ![512, 512]⟩ ⟨2, ![1024, 512]⟩ (Layout.meshBlock [2, 2, 4] ![[0], []] c) v (by decide) (ix2 r l) = v (ix2 R l) := by
  rw [Layout.blockN_apply]
  refine congrArg v (funext fun a => Fin.ext ?_)
  match a with
  | 0 => show Layout.meshLin [2, 2, 4] c.val [0] * 512 + r.val = R.val; rw [meshLin_x, hR]; rfl
  | 1 => show 0 * 512 + l.val = l.val; omega

/-- The two halves' sum does not say which is first. -/
theorem halves (f : Fin 2 → EReal) (c : Dev nD) : f (half c) + f (half (across c)) = f 0 + f 1 := by
  have h : (half c = 0 ∧ half (across c) = 1) ∨ (half c = 1 ∧ half (across c) = 0) := by revert c; decide
  rcases h with ⟨h₁, h₂⟩ | ⟨h₁, h₂⟩ <;> rw [h₁, h₂]
  exact add_comm _ _

variable (m : (ℓ : Loc nD τ sig) → Buf (Elt Ideal) ℓ)

/-- The kernel reads the scale as one row. -/
theorem scale_row (c : Dev nD) (k : Fin 512) :
    γ₀ m c (ix2 0 k) = (m ((c : Thread nD τ).loc main_arg1) : FVec Ideal S512 .bf16) (ix1 k) := by
  have h : γ₀ m c = shapeCast S1x512 (m ((c : Thread nD τ).loc main_arg1) : FVec Ideal S512 .bf16) Facts₀.shapeCasts_S512_S1x512 := by
    unfold γ₀ V
    after_results
    rfl
  rw [h]
  pointwise

theorem value (P : FVec Ideal Cert.ReferenceIdeal.S2x1024x512 .bf16) (γ : FVec Ideal Cert.ReferenceIdeal.S512 .bf16)
    (hP : ∀ c : Dev nD, m ((c : Thread nD τ).loc main_arg0)
      = Layout.blockN ⟨3, ![1, 1024, 512]⟩ ⟨3, ![2, 1024, 512]⟩ (Layout.meshBlock [2, 2, 4] ![[0], [], []] c) P)
    (hγ : ∀ c : Dev nD, m ((c : Thread nD τ).loc main_arg1) = γ) (c : Dev nD) :
    result (X₀ m) c (γ₀ m c) = Layout.blockN ⟨2, ![512, 512]⟩ ⟨2, ![1024, 512]⟩ (Layout.meshBlock [2, 2, 4] ![[0], []] c) (whole P γ) := by
  funext i
  obtain ⟨r, l, rfl⟩ : ∃ r l : Fin 512, i = ix2 r l := ⟨i 0, i 1, eq_ix2 i⟩
  have hx := (half c).isLt
  have hR : c.val / 8 * 512 + r.val < 1024 := by show (half c).val * 512 + r.val < 1024; omega
  refine (result_apply _ c _ r l ⟨_, hR⟩ rfl).trans (Eq.trans ?_ ((whole_apply P γ ⟨_, hR⟩ l).symm.trans (end_apply _ c r l ⟨_, hR⟩ rfl).symm))
  congr 1
  · funext k
    have hX : ∀ d : Dev nD, X₀ m d (ix3 0 ⟨_, hR⟩ k) = P (ix3 (half d) ⟨_, hR⟩ k) := fun d =>
      (congrFun (hP d) _).trans (start_apply P d _ k)
    exact (congrArg₂ (· + ·) (hX c) (hX (across c))).trans (halves (fun b => P (ix3 b ⟨_, hR⟩ k)) c)
  · funext k
    exact (scale_row m c k).trans (congrFun (hγ c) _)

end Cert.KernelIdeal.Pair

namespace Cert.Value

open Idealize.ShloMosaic Idealize.ShloMosaic.TcCoe Idealize.SL.Sem

theorem algebraic : Cert.algebraic_KernelIdeal_ReferenceIdeal (hKernelIdeal := Cert.KernelIdeal.Gen.facts) (hReferenceIdeal := Cert.ReferenceIdeal.Gen.facts) :=
  fun m ρ m' ρ' _ hargs =>
    ⟨Cert.ReferenceIdeal.Value.whole (m' (((0 : Dev Cert.ReferenceIdeal.nD) : Thread Cert.ReferenceIdeal.nD Cert.ReferenceIdeal.τ).loc Cert.ReferenceIdeal.main_arg0))
        (m' (((0 : Dev Cert.ReferenceIdeal.nD) : Thread Cert.ReferenceIdeal.nD Cert.ReferenceIdeal.τ).loc Cert.ReferenceIdeal.main_arg1)),
      (θ_run Cert.KernelIdeal.defs _ _).mono
        (fun _ h c => ⟨(h.1 c).2.2.trans (Cert.KernelIdeal.Pair.value m _ _ (fun d => (hargs d).1) (fun d => (hargs d).2) c), (h.1 c).1, (h.1 c).2.1⟩)
        (Cert.KernelIdeal.Pair.run_main (F := Ideal) m ρ),
      (θ_run Cert.ReferenceIdeal.defs _ _).mono (fun _ h => h 0) (Cert.ReferenceIdeal.Value.run (F := Ideal) m' ρ')⟩

end Cert.Value

end
-- ==== Proof.lean ====
/- The claim, put together: the three frames, the idealization (no operation rewritten) and the value. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.Frames.frame_kernel, Cert.Frames.frame_ideal, Cert.Frames.frame_reference, trivial, Cert.Value.algebraic⟩

end Cert.Proof

end
